-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "slope" .bf16 0x3E4D#16 ((13421773 / 67108864 : ℝ) : EReal)
  ∧ IdealRules.named_const.Statement Cert.KernelIdeal.κ "mask" .f32 0xF149F2CA#32 ⊥

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S128x2145 : Shape := ⟨2, ![128, 2145]⟩
abbrev S32x32 : Shape := ⟨2, ![32, 32]⟩
abbrev S32 : Shape := ⟨1, ![32]⟩
abbrev S32x128 : Shape := ⟨2, ![32, 128]⟩
abbrev S128 : Shape := ⟨1, ![128]⟩
abbrev S3x128 : Shape := ⟨2, ![3, 128]⟩
abbrev S4x32 : Shape := ⟨2, ![4, 32]⟩
abbrev S128x128 : Shape := ⟨2, ![128, 128]⟩
abbrev S288x5 : Shape := ⟨2, ![288, 5]⟩
abbrev S5 : Shape := ⟨1, ![5]⟩
abbrev S128x1024 : Shape := ⟨2, ![128, 1024]⟩
abbrev S128x32x32 : Shape := ⟨3, ![128, 32, 32]⟩
abbrev S_ : Shape := ⟨0, ![]⟩
abbrev S128x32x32x1 : Shape := ⟨4, ![128, 32, 32, 1]⟩
abbrev S1x1x1x3 : Shape := ⟨4, ![1, 1, 1, 3]⟩
abbrev S128x32x32x3 : Shape := ⟨4, ![128, 32, 32, 3]⟩
abbrev S128x1 : Shape := ⟨2, ![128, 1]⟩
abbrev S128x1x1x1 : Shape := ⟨4, ![128, 1, 1, 1]⟩
abbrev S128x1120 : Shape := ⟨2, ![128, 1120]⟩
abbrev S128x32x35 : Shape := ⟨3, ![128, 32, 35]⟩
abbrev S128x32x2 : Shape := ⟨3, ![128, 32, 2]⟩
abbrev S128x32x1x2 : Shape := ⟨4, ![128, 32, 1, 2]⟩
abbrev S128x1x32x2 : Shape := ⟨4, ![128, 1, 32, 2]⟩
abbrev S128x32x32x2 : Shape := ⟨4, ![128, 32, 32, 2]⟩
abbrev S1x32x32 : Shape := ⟨3, ![1, 32, 32]⟩
abbrev S1x1x32 : Shape := ⟨3, ![1, 1, 32]⟩
abbrev S128x32x128 : Shape := ⟨3, ![128, 32, 128]⟩
abbrev S1x1x128 : Shape := ⟨3, ![1, 1, 128]⟩
abbrev S128x32x4x32 : Shape := ⟨4, ![128, 32, 4, 32]⟩
abbrev S128x32x32x128 : Shape := ⟨4, ![128, 32, 32, 128]⟩
abbrev S128x32x32x4x32 : Shape := ⟨5, ![128, 32, 32, 4, 32]⟩
abbrev S128x32x1x4x32 : Shape := ⟨5, ![128, 32, 1, 4, 32]⟩
abbrev S128x1x32x4x32 : Shape := ⟨5, ![128, 1, 32, 4, 32]⟩
abbrev S4x128x32x32 : Shape := ⟨4, ![4, 128, 32, 32]⟩
abbrev S128x32x32x4 : Shape := ⟨4, ![128, 32, 32, 4]⟩
abbrev S128x32x1 : Shape := ⟨3, ![128, 32, 1]⟩
abbrev S128x32x4 : Shape := ⟨3, ![128, 32, 4]⟩
abbrev S128x1x32x4 : Shape := ⟨4, ![128, 1, 32, 4]⟩
abbrev S128x4x32x32 : Shape := ⟨4, ![128, 4, 32, 32]⟩

class Facts : Prop where
  slices_S128x2145_S128x1024_0_1120 : S128x2145.Slices ![0, 1120] S128x1024
  shapeCasts_S128x1024_S128x32x32 : S128x1024.ShapeCasts S128x32x32
  bcast_S_S128x32x32 : S_.BroadcastsInDim S128x32x32 (![] : Fin 0 → Fin S128x32x32.rank)
  bcast_S128x32x32_S128x32x32x1_0_1_2 : S128x32x32.BroadcastsInDim S128x32x32x1 (![0, 1, 2] : Fin 3 → Fin S128x32x32x1.rank)
  bcast_S128x32x32x1_S128x32x32x3_0_1_2_3 : S128x32x32x1.BroadcastsInDim S128x32x32x3 (![0, 1, 2, 3] : Fin 4 → Fin S128x32x32x3.rank)
  bcast_S1x1x1x3_S128x32x32x3_0_1_2_3 : S1x1x1x3.BroadcastsInDim S128x32x32x3 (![0, 1, 2, 3] : Fin 4 → Fin S128x32x32x3.rank)
  slices_S128x2145_S128x1_0_2144 : S128x2145.Slices ![0, 2144] S128x1
  shapeCasts_S128x1_S128 : S128x1.ShapeCasts S128
  bcast_S128_S128x1x1x1_0 : S128.BroadcastsInDim S128x1x1x1 (![0] : Fin 1 → Fin S128x1x1x1.rank)
  slices_S128x2145_S128x1120_0_0 : S128x2145.Slices ![0, 0] S128x1120
  shapeCasts_S128x1120_S128x32x35 : S128x1120.ShapeCasts S128x32x35
  slices_S128x32x35_S128x32x2_0_0_0 : S128x32x35.Slices ![0, 0, 0] S128x32x2
  bcast_S128x32x2_S128x32x1x2_0_1_3 : S128x32x2.BroadcastsInDim S128x32x1x2 (![0, 1, 3] : Fin 3 → Fin S128x32x1x2.rank)
  bcast_S128x32x2_S128x1x32x2_0_2_3 : S128x32x2.BroadcastsInDim S128x1x32x2 (![0, 2, 3] : Fin 3 → Fin S128x1x32x2.rank)
  bcast_S128x32x1x2_S128x32x32x2_0_1_2_3 : S128x32x1x2.BroadcastsInDim S128x32x32x2 (![0, 1, 2, 3] : Fin 4 → Fin S128x32x32x2.rank)
  bcast_S128x1x32x2_S128x32x32x2_0_1_2_3 : S128x1x32x2.BroadcastsInDim S128x32x32x2 (![0, 1, 2, 3] : Fin 4 → Fin S128x32x32x2.rank)
  reducesTo_S128x32x32x2_S128x32x32_d3 : S128x32x32x2.ReducesTo [3] S128x32x32
  h_S_ : 0 < S_.numel
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S128x32x32_0_1_2 : S1x32x32.BroadcastsInDim S128x32x32 (![0, 1, 2] : Fin 3 → Fin S128x32x32.rank)
  slices_S128x32x35_S128x32x32_0_0_2 : S128x32x35.Slices ![0, 0, 2] S128x32x32
  bcast_S32_S1x1x32_2 : S32.BroadcastsInDim S1x1x32 (![2] : Fin 1 → Fin S1x1x32.rank)
  bcast_S1x1x32_S128x32x32_0_1_2 : S1x1x32.BroadcastsInDim S128x32x32 (![0, 1, 2] : Fin 3 → Fin S128x32x32.rank)
  bcast_S128_S1x1x128_2 : S128.BroadcastsInDim S1x1x128 (![2] : Fin 1 → Fin S1x1x128.rank)
  bcast_S1x1x128_S128x32x128_0_1_2 : S1x1x128.BroadcastsInDim S128x32x128 (![0, 1, 2] : Fin 3 → Fin S128x32x128.rank)
  shapeCasts_S128x32x128_S128x32x4x32 : S128x32x128.ShapeCasts S128x32x4x32
  shapeCasts_S128x32x32x128_S128x32x32x4x32 : S128x32x32x128.ShapeCasts S128x32x32x4x32
  bcast_S128x32x4x32_S128x32x1x4x32_0_1_3_4 : S128x32x4x32.BroadcastsInDim S128x32x1x4x32 (![0, 1, 3, 4] : Fin 4 → Fin S128x32x1x4x32.rank)
  bcast_S128x32x4x32_S128x1x32x4x32_0_2_3_4 : S128x32x4x32.BroadcastsInDim S128x1x32x4x32 (![0, 2, 3, 4] : Fin 4 → Fin S128x1x32x4x32.rank)
  bcast_S128x32x1x4x32_S128x32x32x4x32_0_1_2_3_4 : S128x32x1x4x32.BroadcastsInDim S128x32x32x4x32 (![0, 1, 2, 3, 4] : Fin 5 → Fin S128x32x32x4x32.rank)
  bcast_S128x1x32x4x32_S128x32x32x4x32_0_1_2_3_4 : S128x1x32x4x32.BroadcastsInDim S128x32x32x4x32 (![0, 1, 2, 3, 4] : Fin 5 → Fin S128x32x32x4x32.rank)
  bcast_S_S128x32x32x4x32 : S_.BroadcastsInDim S128x32x32x4x32 (![] : Fin 0 → Fin S128x32x32x4x32.rank)
  transposes_S4x128x32x32_S128x32x32x4_1_2_3_0 : S4x128x32x32.Transposes [1, 2, 3, 0] S128x32x32x4
  slices_S128x32x35_S128x32x1_0_0_34 : S128x32x35.Slices ![0, 0, 34] S128x32x1
  bcast_S128x32x32x1_S128x32x32x4_0_1_2_3 : S128x32x32x1.BroadcastsInDim S128x32x32x4 (![0, 1, 2, 3] : Fin 4 → Fin S128x32x32x4.rank)
  bcast_S_S128x32x32x4 : S_.BroadcastsInDim S128x32x32x4 (![] : Fin 0 → Fin S128x32x32x4.rank)
  reducesTo_S128x32x32x4_S128x32x4_d1 : S128x32x32x4.ReducesTo [1] S128x32x4
  bcast_S128x32x4_S128x1x32x4_0_2_3 : S128x32x4.BroadcastsInDim S128x1x32x4 (![0, 2, 3] : Fin 3 → Fin S128x1x32x4.rank)
  bcast_S128x1x32x4_S128x32x32x4_0_1_2_3 : S128x1x32x4.BroadcastsInDim S128x32x32x4 (![0, 1, 2, 3] : Fin 4 → Fin S128x32x32x4.rank)
  bcast_S_S128x1x32x4 : S_.BroadcastsInDim S128x1x32x4 (![] : Fin 0 → Fin S128x1x32x4.rank)
  transposes_S128x4x32x32_S128x32x4x32_0_3_1_2 : S128x4x32x32.Transposes [0, 3, 1, 2] S128x32x4x32
  shapeCasts_S128x32x4x32_S128x32x128 : S128x32x4x32.ShapeCasts S128x32x128
  bcast_S_S128x32x128 : S_.BroadcastsInDim S128x32x128 (![] : Fin 0 → Fin S128x32x128.rank)
  bcast_S128x32x1_S128x32x128_0_1_2 : S128x32x1.BroadcastsInDim S128x32x128 (![0, 1, 2] : Fin 3 → Fin S128x32x128.rank)
  bcast_S_S128x1x1x1 : S_.BroadcastsInDim S128x1x1x1 (![] : Fin 0 → Fin S128x1x1x1.rank)
  bcast_S128x1x1x1_S128x32x32x1_0_1_2_3 : S128x1x1x1.BroadcastsInDim S128x32x32x1 (![0, 1, 2, 3] : Fin 4 → Fin S128x32x32x1.rank)
  dot_S128x32x32_S32x32_S128x32x32_2_0_01_1_n_n_wf : DotDims.WF S128x32x32 S32x32 S128x32x32 [2] [0] [0, 1] [1] [] []
  dot_S128x32x32_S32x128_S128x32x128_2_0_01_1_n_n_wf : DotDims.WF S128x32x32 S32x128 S128x32x128 [2] [0] [0, 1] [1] [] []
  dot_S128x32x32x3_S3x128_S128x32x32x128_3_0_012_1_n_n_wf : DotDims.WF S128x32x32x3 S3x128 S128x32x32x128 [3] [0] [0, 1, 2] [1] [] []
  dot_S4x32_S128x32x32x4x32_S4x128x32x32_1_4_n_012_0_3_wf : DotDims.WF S4x32 S128x32x32x4x32 S4x128x32x32 [1] [4] [] [0, 1, 2] [0] [3]
  dot_S128x32x4x32_S128x32x32x4_S128x4x32x32_1_1_3_2_02_03_wf : DotDims.WF S128x32x4x32 S128x32x32x4 S128x4x32x32 [1] [1] [3] [2] [0, 2] [0, 3]
  dot_S128x32x128_S128x128_S128x32x128_2_0_01_1_n_n_wf : DotDims.WF S128x32x128 S128x128 S128x32x128 [2] [0] [0, 1] [1] [] []

variable [Facts]

def dot_S128x32x32_S32x32_S128x32x32_2_0_01_1_n_n : DotDims S128x32x32 S32x32 S128x32x32 where
  lhsContracting := [2]
  rhsContracting := [0]
  lhsNonContracting := [0, 1]
  rhsNonContracting := [1]
  lhsBatch := []
  rhsBatch := []
  wf := dot_S128x32x32_S32x32_S128x32x32_2_0_01_1_n_n_wf
def dot_S128x32x32_S32x128_S128x32x128_2_0_01_1_n_n : DotDims S128x32x32 S32x128 S128x32x128 where
  lhsContracting := [2]
  rhsContracting := [0]
  lhsNonContracting := [0, 1]
  rhsNonContracting := [1]
  lhsBatch := []
  rhsBatch := []
  wf := dot_S128x32x32_S32x128_S128x32x128_2_0_01_1_n_n_wf
def dot_S128x32x32x3_S3x128_S128x32x32x128_3_0_012_1_n_n : DotDims S128x32x32x3 S3x128 S128x32x32x128 where
  lhsContracting := [3]
  rhsContracting := [0]
  lhsNonContracting := [0, 1, 2]
  rhsNonContracting := [1]
  lhsBatch := []
  rhsBatch := []
  wf := dot_S128x32x32x3_S3x128_S128x32x32x128_3_0_012_1_n_n_wf
def dot_S4x32_S128x32x32x4x32_S4x128x32x32_1_4_n_012_0_3 : DotDims S4x32 S128x32x32x4x32 S4x128x32x32 where
  lhsContracting := [1]
  rhsContracting := [4]
  lhsNonContracting := []
  rhsNonContracting := [0, 1, 2]
  lhsBatch := [0]
  rhsBatch := [3]
  wf := dot_S4x32_S128x32x32x4x32_S4x128x32x32_1_4_n_012_0_3_wf
def dot_S128x32x4x32_S128x32x32x4_S128x4x32x32_1_1_3_2_02_03 : DotDims S128x32x4x32 S128x32x32x4 S128x4x32x32 where
  lhsContracting := [1]
  rhsContracting := [1]
  lhsNonContracting := [3]
  rhsNonContracting := [2]
  lhsBatch := [0, 2]
  rhsBatch := [0, 3]
  wf := dot_S128x32x4x32_S128x32x32x4_S128x4x32x32_1_1_3_2_02_03_wf
def dot_S128x32x128_S128x128_S128x32x128_2_0_01_1_n_n : DotDims S128x32x128 S128x128 S128x32x128 where
  lhsContracting := [2]
  rhsContracting := [0]
  lhsNonContracting := [0, 1]
  rhsNonContracting := [1]
  lhsBatch := []
  rhsBatch := []
  wf := dot_S128x32x128_S128x128_S128x32x128_2_0_01_1_n_n_wf
def fn_clip {F : FTy → Type} [FloatOps F] (arg0 : IVec S128x32x32 32) (arg1 : IVec S_ 32) : IVec S128x32x32 32 :=
  let v0 : IVec S_ 32 := id arg1
  let v1 : IVec S128x32x32 32 := broadcastInDim S128x32x32 ![] bcast_S_S128x32x32 v0
  let v2 : IVec S128x32x32 32 := maxsi v1 arg0
  v2

def fn_one_hot {F : FTy → Type} [FloatOps F] (arg0 : IVec S128x32x32 32) : FVec F S128x32x32x3 .f32 :=
  let v0 : IVec S128x32x32x1 32 := broadcastInDim S128x32x32x1 ![0, 1, 2] bcast_S128x32x32_S128x32x32x1_0_1_2 arg0
  let v1 : IVec S1x1x1x3 32 := iotaInDim S1x1x1x3 32 3
  let v2 : IVec S128x32x32x3 32 := broadcastInDim S128x32x32x3 ![0, 1, 2, 3] bcast_S128x32x32x1_S128x32x32x3_0_1_2_3 v0
  let v3 : IVec S128x32x32x3 32 := broadcastInDim S128x32x32x3 ![0, 1, 2, 3] bcast_S1x1x1x3_S128x32x32x3_0_1_2_3 v1
  let v4 : IVec S128x32x32x3 1 := cmpi .eq v2 v3
  let v5 : FVec F S128x32x32x3 .f32 := uitofp .f32 v4
  v5

def fn_relu {F : FTy → Type} [FloatOps F] (arg0 : FVec F S128x32x32 .f32) : FVec F S128x32x32 .f32 :=
  let cst : FVec F S_ .f32 := constant S_ .f32 0x00000000#32
  let v0 : FVec F S128x32x32 .f32 := broadcastInDim S128x32x32 ![] bcast_S_S128x32x32 cst
  let v1 : FVec F S128x32x32 .f32 := maximumf arg0 v0
  v1

def fn_where {F : FTy → Type} [FloatOps F] (arg0 : IVec S128x32x32x4x32 1) (arg1 : FVec F S128x32x32x4x32 .f32) (arg2 : FVec F S128x32x32x4x32 .f32) : FVec F S128x32x32x4x32 .f32 :=
  let v0 : FVec F S128x32x32x4x32 .f32 := select arg0 arg1 arg2
  v0

def fn_where_0 {F : FTy → Type} [FloatOps F] (arg0 : IVec S128x32x32x1 1) (arg1 : FVec F S128x32x32x4 .f32) (arg2 : FVec F S_ .f32) : FVec F S128x32x32x4 .f32 :=
  let v0 : FVec F S_ .f32 := id arg2
  let v1 : IVec S128x32x32x4 1 := broadcastInDim S128x32x32x4 ![0, 1, 2, 3] bcast_S128x32x32x1_S128x32x32x4_0_1_2_3 arg0
  let v2 : FVec F S128x32x32x4 .f32 := broadcastInDim S128x32x32x4 ![] bcast_S_S128x32x32x4 v0
  let v3 : FVec F S128x32x32x4 .f32 := select v1 arg1 v2
  v3

def fn_relu_1 {F : FTy → Type} [FloatOps F] (arg0 : FVec F S128x32x128 .f32) : FVec F S128x32x128 .f32 :=
  let cst : FVec F S_ .f32 := constant S_ .f32 0x00000000#32
  let v0 : FVec F S128x32x128 .f32 := broadcastInDim S128x32x128 ![] bcast_S_S128x32x128 cst
  let v1 : FVec F S128x32x128 .f32 := maximumf arg0 v0
  v1

def fn_where_2 {F : FTy → Type} [FloatOps F] (arg0 : IVec S128x32x32x1 1) (arg1 : FVec F S128x1x32x4 .f32) (arg2 : FVec F S_ .f32) : FVec F S128x32x32x4 .f32 :=
  let v0 : FVec F S_ .f32 := id arg2
  let v1 : IVec S128x32x32x4 1 := broadcastInDim S128x32x32x4 ![0, 1, 2, 3] bcast_S128x32x32x1_S128x32x32x4_0_1_2_3 arg0
  let v2 : FVec F S128x32x32x4 .f32 := broadcastInDim S128x32x32x4 ![0, 1, 2, 3] bcast_S128x1x32x4_S128x32x32x4_0_1_2_3 arg1
  let v3 : FVec F S128x32x32x4 .f32 := broadcastInDim S128x32x32x4 ![] bcast_S_S128x32x32x4 v0
  let v4 : FVec F S128x32x32x4 .f32 := select v1 v2 v3
  v4

def fn_part8 {F : FTy → Type} [FloatOps F] (main_v29 : IVec S128x32x32 1) (main_v146 : FVec F S128x32x32x4 .f32) (main_v169 : IVec S128x32x32x4 1) (main_v170 : IVec S128x32x32x1 1) : IVec S128x32x32x4 1 :=
  let main_cst_19 : FVec F S_ .f32 := constant S_ .f32 0xFF800000#32
  let main_v171 : FVec F S128x32x32x4 .f32 := fn_where_0 (F := F) main_v170 main_v146 main_cst_19
  let main_cst_20 : FVec F S_ .f32 := constant S_ .f32 0xFF800000#32
  let main_v172 : FVec F S128x32x4 .f32 := (fun x v => Host.reduce FloatOps.maximumf x v reducesTo_S128x32x32x4_S128x32x4_d1 h_S_) main_v171 main_cst_20
  let main_v173 : FVec F S128x1x32x4 .f32 := broadcastInDim S128x1x32x4 ![0, 2, 3] bcast_S128x32x4_S128x1x32x4_0_2_3 main_v172
  let main_v174 : IVec S128x32x32x1 1 := broadcastInDim S128x32x32x1 ![0, 1, 2] bcast_S128x32x32_S128x32x32x1_0_1_2 main_v29
  let main_cst_21 : FVec F S_ .f32 := constant S_ .f32 0x00000000#32
  let main_v175 : FVec F S128x32x32x4 .f32 := fn_where_2 (F := F) main_v174 main_v173 main_cst_21
  let main_cst_22 : FVec F S_ .f32 := constant S_ .f32 0xC2100000#32
  let main_v176 : FVec F S128x32x32x4 .f32 := broadcastInDim S128x32x32x4 ![] bcast_S_S128x32x32x4 main_cst_22
  let main_v177 : IVec S128x32x32x4 1 := cmpf .oge main_v175 main_v176
  let main_v178 : IVec S128x32x32x4 1 := andi main_v169 main_v177
  main_v178

def fn_part7 {F : FTy → Type} [FloatOps F] (main_v8 : IVec S128x1x1x1 32) (main_v29 : IVec S128x32x32 1) (main_v67 : FVec F S128x32x32x4 .f32) (main_v146 : FVec F S128x32x32x4 .f32) (main_v151 : IVec S128x32x32x1 1) (main_c_13 : IVec S_ 32) : IVec S128x32x32x4 1 :=
  let main_v152 : IVec S128x1x1x1 32 := broadcastInDim S128x1x1x1 ![] bcast_S_S128x1x1x1 main_c_13
  let main_v153 : IVec S128x1x1x1 1 := cmpi .sge main_v8 main_v152
  let main_v154 : IVec S128x32x32x1 1 := broadcastInDim S128x32x32x1 ![0, 1, 2, 3] bcast_S128x1x1x1_S128x32x32x1_0_1_2_3 main_v153
  let main_v155 : IVec S128x32x32x1 1 := andi main_v151 main_v154
  let main_c_14 : IVec S_ 32 := constantI S_ 32 32#32
  let main_v156 : IVec S128x1x1x1 32 := broadcastInDim S128x1x1x1 ![] bcast_S_S128x1x1x1 main_c_14
  let main_v157 : IVec S128x1x1x1 1 := cmpi .slt main_v8 main_v156
  let main_v158 : IVec S128x32x32x1 1 := broadcastInDim S128x32x32x1 ![0, 1, 2, 3] bcast_S128x1x1x1_S128x32x32x1_0_1_2_3 main_v157
  let main_v159 : IVec S128x32x32x1 1 := andi main_v155 main_v158
  let main_v160 : IVec S128x32x32x1 1 := broadcastInDim S128x32x32x1 ![0, 1, 2] bcast_S128x32x32_S128x32x32x1_0_1_2 main_v29
  let main_cst_15 : FVec F S_ .f32 := constant S_ .f32 0xFF800000#32
  let main_v161 : FVec F S128x32x32x4 .f32 := fn_where_0 (F := F) main_v160 main_v67 main_cst_15
  let main_cst_16 : FVec F S_ .f32 := constant S_ .f32 0xFF800000#32
  let main_v162 : FVec F S128x32x4 .f32 := (fun x v => Host.reduce FloatOps.maximumf x v reducesTo_S128x32x32x4_S128x32x4_d1 h_S_) main_v161 main_cst_16
  let main_v163 : FVec F S128x1x32x4 .f32 := broadcastInDim S128x1x32x4 ![0, 2, 3] bcast_S128x32x4_S128x1x32x4_0_2_3 main_v162
  let main_v164 : IVec S128x32x32x1 1 := broadcastInDim S128x32x32x1 ![0, 1, 2] bcast_S128x32x32_S128x32x32x1_0_1_2 main_v29
  let main_cst_17 : FVec F S_ .f32 := constant S_ .f32 0x00000000#32
  let main_v165 : FVec F S128x32x32x4 .f32 := fn_where_2 (F := F) main_v164 main_v163 main_cst_17
  let main_cst_18 : FVec F S_ .f32 := constant S_ .f32 0xC2100000#32
  let main_v166 : FVec F S128x32x32x4 .f32 := broadcastInDim S128x32x32x4 ![] bcast_S_S128x32x32x4 main_cst_18
  let main_v167 : IVec S128x32x32x4 1 := cmpf .oge main_v165 main_v166
  let main_v168 : IVec S128x32x32x4 1 := broadcastInDim S128x32x32x4 ![0, 1, 2, 3] bcast_S128x32x32x1_S128x32x32x4_0_1_2_3 main_v159
  let main_v169 : IVec S128x32x32x4 1 := andi main_v168 main_v167
  let main_v170 : IVec S128x32x32x1 1 := broadcastInDim S128x32x32x1 ![0, 1, 2] bcast_S128x32x32_S128x32x32x1_0_1_2 main_v29
  fn_part8 (F := F) main_v29 main_v146 main_v169 main_v170

def fn_part6 {F : FTy → Type} [FloatOps F] (main_arg16 : FVec F S3x128 .f32) (main_arg17 : FVec F S4x32 .f32) (main_v3 : IVec S128x32x32 32) (main_v4 : FVec F S128x32x32x3 .f32) (main_v8 : IVec S128x1x1x1 32) (main_v29 : IVec S128x32x32 1) (main_v67 : FVec F S128x32x32x4 .f32) (main_v126 : FVec F S128x32x4x32 .f32) (main_v131 : FVec F S128x32x4x32 .f32) : IVec S128x32x32x4 1 :=
  let main_v132 : FVec F S128x32x32x128 .f32 := (fun l r => Host.dotGeneral dot_S128x32x32x3_S3x128_S128x32x32x128_3_0_012_1_n_n none l r) main_v4 main_arg16
  let main_v133 : FVec F S128x32x32x4x32 .f32 := shapeCast S128x32x32x4x32 main_v132 shapeCasts_S128x32x32x128_S128x32x32x4x32
  let main_v134 : FVec F S128x32x1x4x32 .f32 := broadcastInDim S128x32x1x4x32 ![0, 1, 3, 4] bcast_S128x32x4x32_S128x32x1x4x32_0_1_3_4 main_v126
  let main_v135 : FVec F S128x1x32x4x32 .f32 := broadcastInDim S128x1x32x4x32 ![0, 2, 3, 4] bcast_S128x32x4x32_S128x1x32x4x32_0_2_3_4 main_v131
  let main_v136 : FVec F S128x32x32x4x32 .f32 := broadcastInDim S128x32x32x4x32 ![0, 1, 2, 3, 4] bcast_S128x32x1x4x32_S128x32x32x4x32_0_1_2_3_4 main_v134
  let main_v137 : FVec F S128x32x32x4x32 .f32 := broadcastInDim S128x32x32x4x32 ![0, 1, 2, 3, 4] bcast_S128x1x32x4x32_S128x32x32x4x32_0_1_2_3_4 main_v135
  let main_v138 : FVec F S128x32x32x4x32 .f32 := addf main_v136 main_v137
  let main_v139 : FVec F S128x32x32x4x32 .f32 := addf main_v138 main_v133
  let main_cst_10 : FVec F S_ .f32 := constant S_ .f32 0x00000000#32
  let main_v140 : FVec F S128x32x32x4x32 .f32 := broadcastInDim S128x32x32x4x32 ![] bcast_S_S128x32x32x4x32 main_cst_10
  let main_v141 : IVec S128x32x32x4x32 1 := cmpf .oge main_v139 main_v140
  let main_cst_11 : FVec F S_ .f32 := constant S_ .f32 0x3E4CCCCD#32
  let main_v142 : FVec F S128x32x32x4x32 .f32 := broadcastInDim S128x32x32x4x32 ![] bcast_S_S128x32x32x4x32 main_cst_11
  let main_v143 : FVec F S128x32x32x4x32 .f32 := mulf main_v142 main_v139
  let main_v144 : FVec F S128x32x32x4x32 .f32 := fn_where (F := F) main_v141 main_v139 main_v143
  let main_v145 : FVec F S4x128x32x32 .f32 := (fun l r => Host.dotGeneral dot_S4x32_S128x32x32x4x32_S4x128x32x32_1_4_n_012_0_3 none l r) main_arg17 main_v144
  let main_v146 : FVec F S128x32x32x4 .f32 := (transpose S128x32x32x4 [1, 2, 3, 0] · transposes_S4x128x32x32_S128x32x32x4_1_2_3_0) main_v145
  let main_c_12 : IVec S_ 32 := constantI S_ 32 0#32
  let main_v147 : IVec S128x32x32 32 := broadcastInDim S128x32x32 ![] bcast_S_S128x32x32 main_c_12
  let main_v148 : IVec S128x32x32 1 := cmpi .eq main_v3 main_v147
  let main_v149 : IVec S128x32x32 1 := noti main_v29
  let main_v150 : IVec S128x32x32 1 := ori main_v148 main_v149
  let main_v151 : IVec S128x32x32x1 1 := broadcastInDim S128x32x32x1 ![0, 1, 2] bcast_S128x32x32_S128x32x32x1_0_1_2 main_v150
  let main_c_13 : IVec S_ 32 := constantI S_ 32 0#32
  fn_part7 (F := F) main_v8 main_v29 main_v67 main_v146 main_v151 main_c_13

def fn_part5 {F : FTy → Type} [FloatOps F] (main_arg11 : FVec F S128 .f32) (main_arg12 : FVec F S128x128 .f32) (main_arg13 : FVec F S128 .f32) (main_arg14 : FVec F S128x128 .f32) (main_arg15 : FVec F S128 .f32) (main_arg16 : FVec F S3x128 .f32) (main_arg17 : FVec F S4x32 .f32) (main_v3 : IVec S128x32x32 32) (main_v4 : FVec F S128x32x32x3 .f32) (main_v8 : IVec S128x1x1x1 32) (main_v29 : IVec S128x32x32 1) (main_v67 : FVec F S128x32x32x4 .f32) (main_v70 : FVec F S128x32x1 .f32) (main_v75 : FVec F S128x32x4x32 .f32) (main_v106 : FVec F S128x32x32x4 .f32) (main_v108 : FVec F S128x1x32x4 .f32) : IVec S128x32x32x4 1 :=
  let main_cst_9 : FVec F S_ .f32 := constant S_ .f32 0x24E69595#32
  let main_v109 : FVec F S128x1x32x4 .f32 := broadcastInDim S128x1x32x4 ![] bcast_S_S128x1x32x4 main_cst_9
  let main_v110 : FVec F S128x1x32x4 .f32 := maximumf main_v108 main_v109
  let main_v111 : FVec F S128x32x32x4 .f32 := broadcastInDim S128x32x32x4 ![0, 1, 2, 3] bcast_S128x1x32x4_S128x32x32x4_0_1_2_3 main_v110
  let main_v112 : FVec F S128x32x32x4 .f32 := Host.divf main_v106 main_v111
  let main_v113 : FVec F S128x4x32x32 .f32 := (fun l r => Host.dotGeneral dot_S128x32x4x32_S128x32x32x4_S128x4x32x32_1_1_3_2_02_03 none l r) main_v75 main_v112
  let main_v114 : FVec F S128x32x4x32 .f32 := (transpose S128x32x4x32 [0, 3, 1, 2] · transposes_S128x4x32x32_S128x32x4x32_0_3_1_2) main_v113
  let main_v115 : FVec F S128x32x128 .f32 := shapeCast S128x32x128 main_v114 shapeCasts_S128x32x4x32_S128x32x128
  let main_v116 : FVec F S1x1x128 .f32 := broadcastInDim S1x1x128 ![2] bcast_S128_S1x1x128_2 main_arg11
  let main_v117 : FVec F S128x32x128 .f32 := broadcastInDim S128x32x128 ![0, 1, 2] bcast_S1x1x128_S128x32x128_0_1_2 main_v116
  let main_v118 : FVec F S128x32x128 .f32 := addf main_v115 main_v117
  let main_v119 : FVec F S128x32x128 .f32 := fn_relu_1 (F := F) main_v118
  let main_v120 : FVec F S128x32x128 .f32 := broadcastInDim S128x32x128 ![0, 1, 2] bcast_S128x32x1_S128x32x128_0_1_2 main_v70
  let main_v121 : FVec F S128x32x128 .f32 := mulf main_v119 main_v120
  let main_v122 : FVec F S128x32x128 .f32 := (fun l r => Host.dotGeneral dot_S128x32x128_S128x128_S128x32x128_2_0_01_1_n_n none l r) main_v121 main_arg12
  let main_v123 : FVec F S1x1x128 .f32 := broadcastInDim S1x1x128 ![2] bcast_S128_S1x1x128_2 main_arg13
  let main_v124 : FVec F S128x32x128 .f32 := broadcastInDim S128x32x128 ![0, 1, 2] bcast_S1x1x128_S128x32x128_0_1_2 main_v123
  let main_v125 : FVec F S128x32x128 .f32 := addf main_v122 main_v124
  let main_v126 : FVec F S128x32x4x32 .f32 := shapeCast S128x32x4x32 main_v125 shapeCasts_S128x32x128_S128x32x4x32
  let main_v127 : FVec F S128x32x128 .f32 := (fun l r => Host.dotGeneral dot_S128x32x128_S128x128_S128x32x128_2_0_01_1_n_n none l r) main_v121 main_arg14
  let main_v128 : FVec F S1x1x128 .f32 := broadcastInDim S1x1x128 ![2] bcast_S128_S1x1x128_2 main_arg15
  let main_v129 : FVec F S128x32x128 .f32 := broadcastInDim S128x32x128 ![0, 1, 2] bcast_S1x1x128_S128x32x128_0_1_2 main_v128
  let main_v130 : FVec F S128x32x128 .f32 := addf main_v127 main_v129
  let main_v131 : FVec F S128x32x4x32 .f32 := shapeCast S128x32x4x32 main_v130 shapeCasts_S128x32x128_S128x32x4x32
  fn_part6 (F := F) main_arg16 main_arg17 main_v3 main_v4 main_v8 main_v29 main_v67 main_v126 main_v131

def fn_part4 {F : FTy → Type} [FloatOps F] (main_arg10 : FVec F S4x32 .f32) (main_arg11 : FVec F S128 .f32) (main_arg12 : FVec F S128x128 .f32) (main_arg13 : FVec F S128 .f32) (main_arg14 : FVec F S128x128 .f32) (main_arg15 : FVec F S128 .f32) (main_arg16 : FVec F S3x128 .f32) (main_arg17 : FVec F S4x32 .f32) (main_v3 : IVec S128x32x32 32) (main_v4 : FVec F S128x32x32x3 .f32) (main_v8 : IVec S128x1x1x1 32) (main_v29 : IVec S128x32x32 1) (main_v67 : FVec F S128x32x32x4 .f32) (main_v70 : FVec F S128x32x1 .f32) (main_v75 : FVec F S128x32x4x32 .f32) (main_v88 : FVec F S128x32x32x4x32 .f32) (main_cst_4 : FVec F S_ .f32) : IVec S128x32x32x4 1 :=
  let main_v89 : FVec F S128x32x32x4x32 .f32 := broadcastInDim S128x32x32x4x32 ![] bcast_S_S128x32x32x4x32 main_cst_4
  let main_v90 : IVec S128x32x32x4x32 1 := cmpf .oge main_v88 main_v89
  let main_cst_5 : FVec F S_ .f32 := constant S_ .f32 0x3E4CCCCD#32
  let main_v91 : FVec F S128x32x32x4x32 .f32 := broadcastInDim S128x32x32x4x32 ![] bcast_S_S128x32x32x4x32 main_cst_5
  let main_v92 : FVec F S128x32x32x4x32 .f32 := mulf main_v91 main_v88
  let main_v93 : FVec F S128x32x32x4x32 .f32 := fn_where (F := F) main_v90 main_v88 main_v92
  let main_v94 : FVec F S4x128x32x32 .f32 := (fun l r => Host.dotGeneral dot_S4x32_S128x32x32x4x32_S4x128x32x32_1_4_n_012_0_3 none l r) main_arg10 main_v93
  let main_v95 : FVec F S128x32x32x4 .f32 := (transpose S128x32x32x4 [1, 2, 3, 0] · transposes_S4x128x32x32_S128x32x32x4_1_2_3_0) main_v94
  let main_v96 : IVec S128x32x32x1 1 := broadcastInDim S128x32x32x1 ![0, 1, 2] bcast_S128x32x32_S128x32x32x1_0_1_2 main_v29
  let main_cst_6 : FVec F S_ .f32 := constant S_ .f32 0xF149F2CA#32
  let main_v97 : FVec F S128x32x32x4 .f32 := fn_where_0 (F := F) main_v96 main_v95 main_cst_6
  let main_cst_7 : FVec F S_ .f32 := constant S_ .f32 0xFF800000#32
  let main_v98 : FVec F S128x32x4 .f32 := (fun x v => Host.reduce FloatOps.maximumf x v reducesTo_S128x32x32x4_S128x32x4_d1 h_S_) main_v97 main_cst_7
  let main_v99 : FVec F S128x1x32x4 .f32 := broadcastInDim S128x1x32x4 ![0, 2, 3] bcast_S128x32x4_S128x1x32x4_0_2_3 main_v98
  let main_v100 : FVec F S128x32x32x4 .f32 := broadcastInDim S128x32x32x4 ![0, 1, 2, 3] bcast_S128x1x32x4_S128x32x32x4_0_1_2_3 main_v99
  let main_v101 : FVec F S128x32x32x4 .f32 := subf main_v97 main_v100
  let main_v102 : FVec F S128x32x32x4 .f32 := Host.exp main_v101
  let main_v103 : IVec S128x32x32x1 1 := broadcastInDim S128x32x32x1 ![0, 1, 2] bcast_S128x32x32_S128x32x32x1_0_1_2 main_v29
  let main_v104 : FVec F S128x32x32x1 .f32 := uitofp .f32 main_v103
  let main_v105 : FVec F S128x32x32x4 .f32 := broadcastInDim S128x32x32x4 ![0, 1, 2, 3] bcast_S128x32x32x1_S128x32x32x4_0_1_2_3 main_v104
  let main_v106 : FVec F S128x32x32x4 .f32 := mulf main_v102 main_v105
  let main_cst_8 : FVec F S_ .f32 := constant S_ .f32 0x00000000#32
  let main_v107 : FVec F S128x32x4 .f32 := (fun x v => Host.reduceAdd x v reducesTo_S128x32x32x4_S128x32x4_d1 h_S_) main_v106 main_cst_8
  let main_v108 : FVec F S128x1x32x4 .f32 := broadcastInDim S128x1x32x4 ![0, 2, 3] bcast_S128x32x4_S128x1x32x4_0_2_3 main_v107
  fn_part5 (F := F) main_arg11 main_arg12 main_arg13 main_arg14 main_arg15 main_arg16 main_arg17 main_v3 main_v4 main_v8 main_v29 main_v67 main_v70 main_v75 main_v106 main_v108

def fn_part3 {F : FTy → Type} [FloatOps F] (main_arg0 : FVec F S128x2145 .f32) (main_arg5 : FVec F S32x128 .f32) (main_arg6 : FVec F S128 .f32) (main_arg7 : FVec F S32x128 .f32) (main_arg8 : FVec F S128 .f32) (main_arg9 : FVec F S3x128 .f32) (main_arg10 : FVec F S4x32 .f32) (main_arg11 : FVec F S128 .f32) (main_arg12 : FVec F S128x128 .f32) (main_arg13 : FVec F S128 .f32) (main_arg14 : FVec F S128x128 .f32) (main_arg15 : FVec F S128 .f32) (main_arg16 : FVec F S3x128 .f32) (main_arg17 : FVec F S4x32 .f32) (main_v3 : IVec S128x32x32 32) (main_v4 : FVec F S128x32x32x3 .f32) (main_v8 : IVec S128x1x1x1 32) (main_v29 : IVec S128x32x32 1) (main_v42 : FVec F S128x32x32 .f32) (main_v65 : FVec F S128x32x32x4x32 .f32) : IVec S128x32x32x4 1 :=
  let main_v66 : FVec F S4x128x32x32 .f32 := (fun l r => Host.dotGeneral dot_S4x32_S128x32x32x4x32_S4x128x32x32_1_4_n_012_0_3 none l r) main_arg10 main_v65
  let main_v67 : FVec F S128x32x32x4 .f32 := (transpose S128x32x32x4 [1, 2, 3, 0] · transposes_S4x128x32x32_S128x32x32x4_1_2_3_0) main_v66
  let main_v68 : FVec F S128x1120 .f32 := (extractStridedSlice S128x1120 ![0, 0] · slices_S128x2145_S128x1120_0_0) main_arg0
  let main_v69 : FVec F S128x32x35 .f32 := shapeCast S128x32x35 main_v68 shapeCasts_S128x1120_S128x32x35
  let main_v70 : FVec F S128x32x1 .f32 := (extractStridedSlice S128x32x1 ![0, 0, 34] · slices_S128x32x35_S128x32x1_0_0_34) main_v69
  let main_v71 : FVec F S128x32x128 .f32 := (fun l r => Host.dotGeneral dot_S128x32x32_S32x128_S128x32x128_2_0_01_1_n_n none l r) main_v42 main_arg5
  let main_v72 : FVec F S1x1x128 .f32 := broadcastInDim S1x1x128 ![2] bcast_S128_S1x1x128_2 main_arg6
  let main_v73 : FVec F S128x32x128 .f32 := broadcastInDim S128x32x128 ![0, 1, 2] bcast_S1x1x128_S128x32x128_0_1_2 main_v72
  let main_v74 : FVec F S128x32x128 .f32 := addf main_v71 main_v73
  let main_v75 : FVec F S128x32x4x32 .f32 := shapeCast S128x32x4x32 main_v74 shapeCasts_S128x32x128_S128x32x4x32
  let main_v76 : FVec F S128x32x128 .f32 := (fun l r => Host.dotGeneral dot_S128x32x32_S32x128_S128x32x128_2_0_01_1_n_n none l r) main_v42 main_arg7
  let main_v77 : FVec F S1x1x128 .f32 := broadcastInDim S1x1x128 ![2] bcast_S128_S1x1x128_2 main_arg8
  let main_v78 : FVec F S128x32x128 .f32 := broadcastInDim S128x32x128 ![0, 1, 2] bcast_S1x1x128_S128x32x128_0_1_2 main_v77
  let main_v79 : FVec F S128x32x128 .f32 := addf main_v76 main_v78
  let main_v80 : FVec F S128x32x4x32 .f32 := shapeCast S128x32x4x32 main_v79 shapeCasts_S128x32x128_S128x32x4x32
  let main_v81 : FVec F S128x32x32x128 .f32 := (fun l r => Host.dotGeneral dot_S128x32x32x3_S3x128_S128x32x32x128_3_0_012_1_n_n none l r) main_v4 main_arg9
  let main_v82 : FVec F S128x32x32x4x32 .f32 := shapeCast S128x32x32x4x32 main_v81 shapeCasts_S128x32x32x128_S128x32x32x4x32
  let main_v83 : FVec F S128x32x1x4x32 .f32 := broadcastInDim S128x32x1x4x32 ![0, 1, 3, 4] bcast_S128x32x4x32_S128x32x1x4x32_0_1_3_4 main_v75
  let main_v84 : FVec F S128x1x32x4x32 .f32 := broadcastInDim S128x1x32x4x32 ![0, 2, 3, 4] bcast_S128x32x4x32_S128x1x32x4x32_0_2_3_4 main_v80
  let main_v85 : FVec F S128x32x32x4x32 .f32 := broadcastInDim S128x32x32x4x32 ![0, 1, 2, 3, 4] bcast_S128x32x1x4x32_S128x32x32x4x32_0_1_2_3_4 main_v83
  let main_v86 : FVec F S128x32x32x4x32 .f32 := broadcastInDim S128x32x32x4x32 ![0, 1, 2, 3, 4] bcast_S128x1x32x4x32_S128x32x32x4x32_0_1_2_3_4 main_v84
  let main_v87 : FVec F S128x32x32x4x32 .f32 := addf main_v85 main_v86
  let main_v88 : FVec F S128x32x32x4x32 .f32 := addf main_v87 main_v82
  let main_cst_4 : FVec F S_ .f32 := constant S_ .f32 0x00000000#32
  fn_part4 (F := F) main_arg10 main_arg11 main_arg12 main_arg13 main_arg14 main_arg15 main_arg16 main_arg17 main_v3 main_v4 main_v8 main_v29 main_v67 main_v70 main_v75 main_v88 main_cst_4

def fn_part2 {F : FTy → Type} [FloatOps F] (main_arg0 : FVec F S128x2145 .f32) (main_arg5 : FVec F S32x128 .f32) (main_arg6 : FVec F S128 .f32) (main_arg7 : FVec F S32x128 .f32) (main_arg8 : FVec F S128 .f32) (main_arg9 : FVec F S3x128 .f32) (main_arg10 : FVec F S4x32 .f32) (main_arg11 : FVec F S128 .f32) (main_arg12 : FVec F S128x128 .f32) (main_arg13 : FVec F S128 .f32) (main_arg14 : FVec F S128x128 .f32) (main_arg15 : FVec F S128 .f32) (main_arg16 : FVec F S3x128 .f32) (main_arg17 : FVec F S4x32 .f32) (main_v3 : IVec S128x32x32 32) (main_v4 : FVec F S128x32x32x3 .f32) (main_v8 : IVec S128x1x1x1 32) (main_v29 : IVec S128x32x32 1) (main_v42 : FVec F S128x32x32 .f32) (main_v43 : FVec F S128x32x128 .f32) : IVec S128x32x32x4 1 :=
  let main_v44 : FVec F S1x1x128 .f32 := broadcastInDim S1x1x128 ![2] bcast_S128_S1x1x128_2 main_arg6
  let main_v45 : FVec F S128x32x128 .f32 := broadcastInDim S128x32x128 ![0, 1, 2] bcast_S1x1x128_S128x32x128_0_1_2 main_v44
  let main_v46 : FVec F S128x32x128 .f32 := addf main_v43 main_v45
  let main_v47 : FVec F S128x32x4x32 .f32 := shapeCast S128x32x4x32 main_v46 shapeCasts_S128x32x128_S128x32x4x32
  let main_v48 : FVec F S128x32x128 .f32 := (fun l r => Host.dotGeneral dot_S128x32x32_S32x128_S128x32x128_2_0_01_1_n_n none l r) main_v42 main_arg7
  let main_v49 : FVec F S1x1x128 .f32 := broadcastInDim S1x1x128 ![2] bcast_S128_S1x1x128_2 main_arg8
  let main_v50 : FVec F S128x32x128 .f32 := broadcastInDim S128x32x128 ![0, 1, 2] bcast_S1x1x128_S128x32x128_0_1_2 main_v49
  let main_v51 : FVec F S128x32x128 .f32 := addf main_v48 main_v50
  let main_v52 : FVec F S128x32x4x32 .f32 := shapeCast S128x32x4x32 main_v51 shapeCasts_S128x32x128_S128x32x4x32
  let main_v53 : FVec F S128x32x32x128 .f32 := (fun l r => Host.dotGeneral dot_S128x32x32x3_S3x128_S128x32x32x128_3_0_012_1_n_n none l r) main_v4 main_arg9
  let main_v54 : FVec F S128x32x32x4x32 .f32 := shapeCast S128x32x32x4x32 main_v53 shapeCasts_S128x32x32x128_S128x32x32x4x32
  let main_v55 : FVec F S128x32x1x4x32 .f32 := broadcastInDim S128x32x1x4x32 ![0, 1, 3, 4] bcast_S128x32x4x32_S128x32x1x4x32_0_1_3_4 main_v47
  let main_v56 : FVec F S128x1x32x4x32 .f32 := broadcastInDim S128x1x32x4x32 ![0, 2, 3, 4] bcast_S128x32x4x32_S128x1x32x4x32_0_2_3_4 main_v52
  let main_v57 : FVec F S128x32x32x4x32 .f32 := broadcastInDim S128x32x32x4x32 ![0, 1, 2, 3, 4] bcast_S128x32x1x4x32_S128x32x32x4x32_0_1_2_3_4 main_v55
  let main_v58 : FVec F S128x32x32x4x32 .f32 := broadcastInDim S128x32x32x4x32 ![0, 1, 2, 3, 4] bcast_S128x1x32x4x32_S128x32x32x4x32_0_1_2_3_4 main_v56
  let main_v59 : FVec F S128x32x32x4x32 .f32 := addf main_v57 main_v58
  let main_v60 : FVec F S128x32x32x4x32 .f32 := addf main_v59 main_v54
  let main_cst_2 : FVec F S_ .f32 := constant S_ .f32 0x00000000#32
  let main_v61 : FVec F S128x32x32x4x32 .f32 := broadcastInDim S128x32x32x4x32 ![] bcast_S_S128x32x32x4x32 main_cst_2
  let main_v62 : IVec S128x32x32x4x32 1 := cmpf .oge main_v60 main_v61
  let main_cst_3 : FVec F S_ .f32 := constant S_ .f32 0x3E4CCCCD#32
  let main_v63 : FVec F S128x32x32x4x32 .f32 := broadcastInDim S128x32x32x4x32 ![] bcast_S_S128x32x32x4x32 main_cst_3
  let main_v64 : FVec F S128x32x32x4x32 .f32 := mulf main_v63 main_v60
  let main_v65 : FVec F S128x32x32x4x32 .f32 := fn_where (F := F) main_v62 main_v60 main_v64
  fn_part3 (F := F) main_arg0 main_arg5 main_arg6 main_arg7 main_arg8 main_arg9 main_arg10 main_arg11 main_arg12 main_arg13 main_arg14 main_arg15 main_arg16 main_arg17 main_v3 main_v4 main_v8 main_v29 main_v42 main_v65

def fn_part1 {F : FTy → Type} [FloatOps F] (main_arg0 : FVec F S128x2145 .f32) (main_arg1 : FVec F S32x32 .f32) (main_arg2 : FVec F S32 .f32) (main_arg3 : FVec F S32x32 .f32) (main_arg4 : FVec F S32 .f32) (main_arg5 : FVec F S32x128 .f32) (main_arg6 : FVec F S128 .f32) (main_arg7 : FVec F S32x128 .f32) (main_arg8 : FVec F S128 .f32) (main_arg9 : FVec F S3x128 .f32) (main_arg10 : FVec F S4x32 .f32) (main_arg11 : FVec F S128 .f32) (main_arg12 : FVec F S128x128 .f32) (main_arg13 : FVec F S128 .f32) (main_arg14 : FVec F S128x128 .f32) (main_arg15 : FVec F S128 .f32) (main_arg16 : FVec F S3x128 .f32) (main_arg17 : FVec F S4x32 .f32) (main_v3 : IVec S128x32x32 32) (main_v4 : FVec F S128x32x32x3 .f32) (main_v8 : IVec S128x1x1x1 32) (main_v18 : FVec F S128x32x32 .f32) (main_v19 : IVec S32x32 32) (main_v20 : IVec S32x32 32) (main_c_0 : IVec S_ 32) : IVec S128x32x32x4 1 :=
  let main_v21 : IVec S32x32 32 := broadcastInDim S32x32 ![] bcast_S_S32x32 main_c_0
  let main_v22 : IVec S32x32 32 := addi main_v19 main_v21
  let main_v23 : IVec S32x32 1 := cmpi .eq main_v22 main_v20
  let main_cst_1 : FVec F S_ .f32 := constant S_ .f32 0x3E800000#32
  let main_v24 : FVec F S128x32x32 .f32 := broadcastInDim S128x32x32 ![] bcast_S_S128x32x32 main_cst_1
  let main_v25 : IVec S128x32x32 1 := cmpf .ole main_v18 main_v24
  let main_v26 : IVec S32x32 1 := noti main_v23
  let main_v27 : IVec S1x32x32 1 := broadcastInDim S1x32x32 ![1, 2] bcast_S32x32_S1x32x32_1_2 main_v26
  let main_v28 : IVec S128x32x32 1 := broadcastInDim S128x32x32 ![0, 1, 2] bcast_S1x32x32_S128x32x32_0_1_2 main_v27
  let main_v29 : IVec S128x32x32 1 := andi main_v25 main_v28
  let main_v30 : FVec F S128x1120 .f32 := (extractStridedSlice S128x1120 ![0, 0] · slices_S128x2145_S128x1120_0_0) main_arg0
  let main_v31 : FVec F S128x32x35 .f32 := shapeCast S128x32x35 main_v30 shapeCasts_S128x1120_S128x32x35
  let main_v32 : FVec F S128x32x32 .f32 := (extractStridedSlice S128x32x32 ![0, 0, 2] · slices_S128x32x35_S128x32x32_0_0_2) main_v31
  let main_v33 : FVec F S128x32x32 .f32 := (fun l r => Host.dotGeneral dot_S128x32x32_S32x32_S128x32x32_2_0_01_1_n_n none l r) main_v32 main_arg1
  let main_v34 : FVec F S1x1x32 .f32 := broadcastInDim S1x1x32 ![2] bcast_S32_S1x1x32_2 main_arg2
  let main_v35 : FVec F S128x32x32 .f32 := broadcastInDim S128x32x32 ![0, 1, 2] bcast_S1x1x32_S128x32x32_0_1_2 main_v34
  let main_v36 : FVec F S128x32x32 .f32 := addf main_v33 main_v35
  let main_v37 : FVec F S128x32x32 .f32 := fn_relu (F := F) main_v36
  let main_v38 : FVec F S128x32x32 .f32 := (fun l r => Host.dotGeneral dot_S128x32x32_S32x32_S128x32x32_2_0_01_1_n_n none l r) main_v37 main_arg3
  let main_v39 : FVec F S1x1x32 .f32 := broadcastInDim S1x1x32 ![2] bcast_S32_S1x1x32_2 main_arg4
  let main_v40 : FVec F S128x32x32 .f32 := broadcastInDim S128x32x32 ![0, 1, 2] bcast_S1x1x32_S128x32x32_0_1_2 main_v39
  let main_v41 : FVec F S128x32x32 .f32 := addf main_v38 main_v40
  let main_v42 : FVec F S128x32x32 .f32 := fn_relu (F := F) main_v41
  let main_v43 : FVec F S128x32x128 .f32 := (fun l r => Host.dotGeneral dot_S128x32x32_S32x128_S128x32x128_2_0_01_1_n_n none l r) main_v42 main_arg5
  fn_part2 (F := F) main_arg0 main_arg5 main_arg6 main_arg7 main_arg8 main_arg9 main_arg10 main_arg11 main_arg12 main_arg13 main_arg14 main_arg15 main_arg16 main_arg17 main_v3 main_v4 main_v8 main_v29 main_v42 main_v43

def fn {F : FTy → Type} [FloatOps F] (main_arg0 : FVec F S128x2145 .f32) (main_arg1 : FVec F S32x32 .f32) (main_arg2 : FVec F S32 .f32) (main_arg3 : FVec F S32x32 .f32) (main_arg4 : FVec F S32 .f32) (main_arg5 : FVec F S32x128 .f32) (main_arg6 : FVec F S128 .f32) (main_arg7 : FVec F S32x128 .f32) (main_arg8 : FVec F S128 .f32) (main_arg9 : FVec F S3x128 .f32) (main_arg10 : FVec F S4x32 .f32) (main_arg11 : FVec F S128 .f32) (main_arg12 : FVec F S128x128 .f32) (main_arg13 : FVec F S128 .f32) (main_arg14 : FVec F S128x128 .f32) (main_arg15 : FVec F S128 .f32) (main_arg16 : FVec F S3x128 .f32) (main_arg17 : FVec F S4x32 .f32) (main_arg18 : FVec F S128 .f32) (main_arg19 : FVec F S288x5 .f32) (main_arg20 : FVec F S5 .f32) : IVec S128x32x32x4 1 :=
  let main_v0 : FVec F S128x1024 .f32 := (extractStridedSlice S128x1024 ![0, 1120] · slices_S128x2145_S128x1024_0_1120) main_arg0
  let main_v1 : FVec F S128x32x32 .f32 := shapeCast S128x32x32 main_v0 shapeCasts_S128x1024_S128x32x32
  let main_v2 : IVec S128x32x32 32 := fptosi 32 main_v1
  let main_c : IVec S_ 32 := constantI S_ 32 0#32
  let main_v3 : IVec S128x32x32 32 := fn_clip (F := F) main_v2 main_c
  let main_v4 : FVec F S128x32x32x3 .f32 := fn_one_hot (F := F) main_v3
  let main_v5 : FVec F S128x1 .f32 := (extractStridedSlice S128x1 ![0, 2144] · slices_S128x2145_S128x1_0_2144) main_arg0
  let main_v6 : FVec F S128 .f32 := shapeCast S128 main_v5 shapeCasts_S128x1_S128
  let main_v7 : IVec S128 32 := fptosi 32 main_v6
  let main_v8 : IVec S128x1x1x1 32 := broadcastInDim S128x1x1x1 ![0] bcast_S128_S128x1x1x1_0 main_v7
  let main_v9 : FVec F S128x1120 .f32 := (extractStridedSlice S128x1120 ![0, 0] · slices_S128x2145_S128x1120_0_0) main_arg0
  let main_v10 : FVec F S128x32x35 .f32 := shapeCast S128x32x35 main_v9 shapeCasts_S128x1120_S128x32x35
  let main_v11 : FVec F S128x32x2 .f32 := (extractStridedSlice S128x32x2 ![0, 0, 0] · slices_S128x32x35_S128x32x2_0_0_0) main_v10
  let main_v12 : FVec F S128x32x1x2 .f32 := broadcastInDim S128x32x1x2 ![0, 1, 3] bcast_S128x32x2_S128x32x1x2_0_1_3 main_v11
  let main_v13 : FVec F S128x1x32x2 .f32 := broadcastInDim S128x1x32x2 ![0, 2, 3] bcast_S128x32x2_S128x1x32x2_0_2_3 main_v11
  let main_v14 : FVec F S128x32x32x2 .f32 := broadcastInDim S128x32x32x2 ![0, 1, 2, 3] bcast_S128x32x1x2_S128x32x32x2_0_1_2_3 main_v12
  let main_v15 : FVec F S128x32x32x2 .f32 := broadcastInDim S128x32x32x2 ![0, 1, 2, 3] bcast_S128x1x32x2_S128x32x32x2_0_1_2_3 main_v13
  let main_v16 : FVec F S128x32x32x2 .f32 := subf main_v14 main_v15
  let main_v17 : FVec F S128x32x32x2 .f32 := mulf main_v16 main_v16
  let main_cst : FVec F S_ .f32 := constant S_ .f32 0x00000000#32
  let main_v18 : FVec F S128x32x32 .f32 := (fun x v => Host.reduceAdd x v reducesTo_S128x32x32x2_S128x32x32_d3 h_S_) main_v17 main_cst
  let main_v19 : IVec S32x32 32 := iotaInDim S32x32 32 0
  let main_v20 : IVec S32x32 32 := iotaInDim S32x32 32 1
  let main_c_0 : IVec S_ 32 := constantI S_ 32 0#32
  fn_part1 (F := F) main_arg0 main_arg1 main_arg2 main_arg3 main_arg4 main_arg5 main_arg6 main_arg7 main_arg8 main_arg9 main_arg10 main_arg11 main_arg12 main_arg13 main_arg14 main_arg15 main_arg16 main_arg17 main_v3 main_v4 main_v8 main_v18 main_v19 main_v20 main_c_0
-- ==== Kernel.lean ====
abbrev S128x2145 : Shape := ⟨2, ![128, 2145]⟩
abbrev S32x32 : Shape := ⟨2, ![32, 32]⟩
abbrev S32 : Shape := ⟨1, ![32]⟩
abbrev S32x128 : Shape := ⟨2, ![32, 128]⟩
abbrev S128 : Shape := ⟨1, ![128]⟩
abbrev S3x128 : Shape := ⟨2, ![3, 128]⟩
abbrev S4x32 : Shape := ⟨2, ![4, 32]⟩
abbrev S128x128 : Shape := ⟨2, ![128, 128]⟩
abbrev S288x5 : Shape := ⟨2, ![288, 5]⟩
abbrev S5 : Shape := ⟨1, ![5]⟩
abbrev S128x1120 : Shape := ⟨2, ![128, 1120]⟩
abbrev S128x32x35 : Shape := ⟨3, ![128, 32, 35]⟩
abbrev S128x32x1 : Shape := ⟨3, ![128, 32, 1]⟩
abbrev S128x32 : Shape := ⟨2, ![128, 32]⟩
abbrev S128x32x1x1 : Shape := ⟨4, ![128, 32, 1, 1]⟩
abbrev S128x1x1x32 : Shape := ⟨4, ![128, 1, 1, 32]⟩
abbrev S128x32x32 : Shape := ⟨3, ![128, 32, 32]⟩
abbrev S128x1 : Shape := ⟨2, ![128, 1]⟩
abbrev S1x128 : Shape := ⟨2, ![1, 128]⟩
abbrev S_ : Shape := ⟨0, ![]⟩
abbrev S4 : Shape := ⟨1, ![4]⟩
abbrev S1x4 : Shape := ⟨2, ![1, 4]⟩
abbrev S128x4 : Shape := ⟨2, ![128, 4]⟩
abbrev S32x5 : Shape := ⟨2, ![32, 5]⟩
abbrev S128x5 : Shape := ⟨2, ![128, 5]⟩
abbrev S1x32 : Shape := ⟨2, ![1, 32]⟩
abbrev S1x5 : Shape := ⟨2, ![1, 5]⟩
abbrev S16x32x32 : Shape := ⟨3, ![16, 32, 32]⟩
abbrev S16x32x1x1 : Shape := ⟨4, ![16, 32, 1, 1]⟩
abbrev S16x1x1x32 : Shape := ⟨4, ![16, 1, 1, 32]⟩
abbrev S16x32x1 : Shape := ⟨3, ![16, 32, 1]⟩
abbrev S16x1 : Shape := ⟨2, ![16, 1]⟩
abbrev S16x5 : Shape := ⟨2, ![16, 5]⟩
abbrev S4x128 : Shape := ⟨2, ![4, 128]⟩
abbrev S512x32 : Shape := ⟨2, ![512, 32]⟩
abbrev S16x32 : Shape := ⟨2, ![16, 32]⟩
abbrev S16x32x1x32 : Shape := ⟨4, ![16, 32, 1, 32]⟩
abbrev S1x32x1x32 : Shape := ⟨4, ![1, 32, 1, 32]⟩
abbrev S512x128 : Shape := ⟨2, ![512, 128]⟩
abbrev S16x32x128 : Shape := ⟨3, ![16, 32, 128]⟩
abbrev S16x32x1x128 : Shape := ⟨4, ![16, 32, 1, 128]⟩
abbrev S16x1x32x128 : Shape := ⟨4, ![16, 1, 32, 128]⟩
abbrev S16x32x32x128 : Shape := ⟨4, ![16, 32, 32, 128]⟩
abbrev S16384x128 : Shape := ⟨2, ![16384, 128]⟩
abbrev S16384x4 : Shape := ⟨2, ![16384, 4]⟩
abbrev S16x32x32x4 : Shape := ⟨4, ![16, 32, 32, 4]⟩
abbrev S16x32x4x32 : Shape := ⟨4, ![16, 32, 4, 32]⟩
abbrev S16x32x4 : Shape := ⟨3, ![16, 32, 4]⟩
abbrev S16x32x4x1 : Shape := ⟨4, ![16, 32, 4, 1]⟩
abbrev S16x128x32 : Shape := ⟨3, ![16, 128, 32]⟩
abbrev S16x128x128 : Shape := ⟨3, ![16, 128, 128]⟩
abbrev S16x32x4x128 : Shape := ⟨4, ![16, 32, 4, 128]⟩
abbrev S1x1x4x128 : Shape := ⟨4, ![1, 1, 4, 128]⟩
abbrev S1x1x128 : Shape := ⟨3, ![1, 1, 128]⟩
abbrev S16x128 : Shape := ⟨2, ![16, 128]⟩

abbrev nBuf : Space → Nat
  | .hbm => 92
  | .vmem => 36
  | .smem => 0
  | _ => 0

abbrev bufTy : (tb : Table) → Fin (tcTables nBuf tb) → BufTy
  | .hbm, ⟨0, _⟩ => ⟨S128x2145, .f32⟩
  | .hbm, ⟨1, _⟩ => ⟨S32x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x128, .f32⟩
  | .hbm, ⟨6, _⟩ => ⟨S128, .f32⟩
  | .hbm, ⟨7, _⟩ => ⟨S32x128, .f32⟩
  | .hbm, ⟨8, _⟩ => ⟨S128, .f32⟩
  | .hbm, ⟨9, _⟩ => ⟨S3x128, .f32⟩
  | .hbm, ⟨10, _⟩ => ⟨S4x32, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S3x128, .f32⟩
  | .hbm, ⟨17, _⟩ => ⟨S4x32, .f32⟩
  | .hbm, ⟨18, _⟩ => ⟨S128, .f32⟩
  | .hbm, ⟨19, _⟩ => ⟨S288x5, .f32⟩
  | .hbm, ⟨20, _⟩ => ⟨S5, .f32⟩
  | .hbm, ⟨21, _⟩ => ⟨S128x1120, .f32⟩
  | .hbm, ⟨22, _⟩ => ⟨S128x32x35, .f32⟩
  | .hbm, ⟨23, _⟩ => ⟨S128x32x1, .f32⟩
  | .hbm, ⟨24, _⟩ => ⟨S128x32, .f32⟩
  | .hbm, ⟨25, _⟩ => ⟨S128x32x1x1, .f32⟩
  | .hbm, ⟨26, _⟩ => ⟨S128x32x1, .f32⟩
  | .hbm, ⟨27, _⟩ => ⟨S128x32, .f32⟩
  | .hbm, ⟨28, _⟩ => ⟨S128x1x1x32, .f32⟩
  | .hbm, ⟨29, _⟩ => ⟨S128x32x1, .f32⟩
  | .hbm, ⟨30, _⟩ => ⟨S128x32, .f32⟩
  | .hbm, ⟨31, _⟩ => ⟨S128x32x1x1, .f32⟩
  | .hbm, ⟨32, _⟩ => ⟨S128x32x1, .f32⟩
  | .hbm, ⟨33, _⟩ => ⟨S128x32, .f32⟩
  | .hbm, ⟨34, _⟩ => ⟨S128x1x1x32, .f32⟩
  | .hbm, ⟨35, _⟩ => ⟨S128x32x32, .f32⟩
  | .hbm, ⟨36, _⟩ => ⟨S128x32x1, .f32⟩
  | .hbm, ⟨37, _⟩ => ⟨S128x1, .f32⟩
  | .hbm, ⟨38, _⟩ => ⟨S128, .f32⟩
  | .hbm, ⟨39, _⟩ => ⟨S128, .i32⟩
  | .hbm, ⟨40, _⟩ => ⟨S128x1, .i32⟩
  | .hbm, ⟨41, _⟩ => ⟨S1x128, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S1x128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S128, .i32⟩
  | .hbm, ⟨50, _⟩ => ⟨S128x1, .i32⟩
  | .hbm, ⟨51, _⟩ => ⟨S_, .i32⟩
  | .hbm, ⟨52, _⟩ => ⟨S_, .i32⟩
  | .hbm, ⟨53, _⟩ => ⟨S128x1, .i32⟩
  | .hbm, ⟨54, _⟩ => ⟨S128x1, .i32⟩
  | .hbm, ⟨55, _⟩ => ⟨S128x1, .i32⟩
  | .hbm, ⟨56, _⟩ => ⟨S_, .i32⟩
  | .hbm, ⟨57, _⟩ => ⟨S128x1, .i32⟩
  | .hbm, ⟨58, _⟩ => ⟨S128x1, .i1⟩
  | .hbm, ⟨59, _⟩ => ⟨S128x1, .i32⟩
  | .hbm, ⟨60, _⟩ => ⟨S128x1, .i32⟩
  | .hbm, ⟨61, _⟩ => ⟨S_, .i32⟩
  | .hbm, ⟨62, _⟩ => ⟨S128x1, .i32⟩
  | .hbm, ⟨63, _⟩ => ⟨S128x1, .i1⟩
  | .hbm, ⟨64, _⟩ => ⟨S128x1, .i1⟩
  | .hbm, ⟨65, _⟩ => ⟨S_, .i32⟩
  | .hbm, ⟨66, _⟩ => ⟨S128x1, .i32⟩
  | .hbm, ⟨67, _⟩ => ⟨S128x1, .i32⟩
  | .hbm, ⟨68, _⟩ => ⟨S128x1, .i32⟩
  | .hbm, ⟨69, _⟩ => ⟨S4, .i32⟩
  | .hbm, ⟨70, _⟩ => ⟨S1x4, .i32⟩
  | .hbm, ⟨71, _⟩ => ⟨S128x4, .i32⟩
  | .hbm, ⟨72, _⟩ => ⟨S128x4, .i32⟩
  | .hbm, ⟨73, _⟩ => ⟨S128x4, .i1⟩
  | .hbm, ⟨74, _⟩ => ⟨S128x4, .f32⟩
  | .hbm, ⟨75, _⟩ => ⟨S128x1, .f32⟩
  | .hbm, ⟨76, _⟩ => ⟨S128x4, .f32⟩
  | .hbm, ⟨77, _⟩ => ⟨S128x4, .f32⟩
  | .hbm, ⟨78, _⟩ => ⟨S128x1, .f32⟩
  | .hbm, ⟨79, _⟩ => ⟨S128x4, .f32⟩
  | .hbm, ⟨80, _⟩ => ⟨S128x4, .f32⟩
  | .hbm, ⟨81, _⟩ => ⟨S32x5, .f32⟩
  | .hbm, ⟨82, _⟩ => ⟨S128x5, .f32⟩
  | .hbm, ⟨83, _⟩ => ⟨S128x5, .f32⟩
  | .hbm, ⟨84, _⟩ => ⟨S1x32, .f32⟩
  | .hbm, ⟨85, _⟩ => ⟨S1x32, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x5, .f32⟩
  | .hbm, ⟨91, _⟩ => ⟨S128x5, .f32⟩
  | .local _ .vmem, ⟨0, _⟩ => ⟨S16x32x32, .f32⟩
  | .local _ .vmem, ⟨1, _⟩ => ⟨S16x32x32, .f32⟩
  | .local _ .vmem, ⟨2, _⟩ => ⟨S16x32x1x1, .f32⟩
  | .local _ .vmem, ⟨3, _⟩ => ⟨S16x32x1x1, .f32⟩
  | .local _ .vmem, ⟨4, _⟩ => ⟨S16x1x1x32, .f32⟩
  | .local _ .vmem, ⟨5, _⟩ => ⟨S16x1x1x32, .f32⟩
  | .local _ .vmem, ⟨6, _⟩ => ⟨S16x32x1x1, .f32⟩
  | .local _ .vmem, ⟨7, _⟩ => ⟨S16x32x1x1, .f32⟩
  | .local _ .vmem, ⟨8, _⟩ => ⟨S16x1x1x32, .f32⟩
  | .local _ .vmem, ⟨9, _⟩ => ⟨S16x1x1x32, .f32⟩
  | .local _ .vmem, ⟨10, _⟩ => ⟨S16x32x1, .f32⟩
  | .local _ .vmem, ⟨11, _⟩ => ⟨S16x32x1, .f32⟩
  | .local _ .vmem, ⟨12, _⟩ => ⟨S16x1, .i32⟩
  | .local _ .vmem, ⟨13, _⟩ => ⟨S16x1, .i32⟩
  | .local _ .vmem, ⟨14, _⟩ => ⟨S32x32, .f32⟩
  | .local _ .vmem, ⟨15, _⟩ => ⟨S1x32, .f32⟩
  | .local _ .vmem, ⟨16, _⟩ => ⟨S32x32, .f32⟩
  | .local _ .vmem, ⟨17, _⟩ => ⟨S1x32, .f32⟩
  | .local _ .vmem, ⟨18, _⟩ => ⟨S32x128, .f32⟩
  | .local _ .vmem, ⟨19, _⟩ => ⟨S1x128, .f32⟩
  | .local _ .vmem, ⟨20, _⟩ => ⟨S32x128, .f32⟩
  | .local _ .vmem, ⟨21, _⟩ => ⟨S1x128, .f32⟩
  | .local _ .vmem, ⟨22, _⟩ => ⟨S128x4, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x4, .f32⟩
  | .local _ .vmem, ⟨29, _⟩ => ⟨S1x128, .f32⟩
  | .local _ .vmem, ⟨30, _⟩ => ⟨S32x5, .f32⟩
  | .local _ .vmem, ⟨31, _⟩ => ⟨S128x5, .f32⟩
  | .local _ .vmem, ⟨32, _⟩ => ⟨S128x5, .f32⟩
  | .local _ .vmem, ⟨33, _⟩ => ⟨S1x5, .f32⟩
  | .local _ .vmem, ⟨34, _⟩ => ⟨S16x5, .f32⟩
  | .local _ .vmem, ⟨35, _⟩ => ⟨S16x5, .f32⟩
  | _, _ => ⟨S128x2145, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_call0_v22 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_v27 : Ref sig .tc := ⟨.hbm, 48, rfl⟩
abbrev main_call0_v28 : Ref sig .tc := ⟨.hbm, 49, rfl⟩
abbrev main_call0_v29 : Ref sig .tc := ⟨.hbm, 50, rfl⟩
abbrev main_call0_c : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_c : Ref sig .tc := ⟨.hbm, 61, rfl⟩
abbrev main_call0_call0_v9 : Ref sig .tc := ⟨.hbm, 62, rfl⟩
abbrev main_call0_call0_v10 : Ref sig .tc := ⟨.hbm, 63, rfl⟩
abbrev main_call0_call0_v11 : Ref sig .tc := ⟨.hbm, 64, rfl⟩
abbrev main_call0_call0_c_0 : Ref sig .tc := ⟨.hbm, 65, rfl⟩
abbrev main_call0_call0_v12 : Ref sig .tc := ⟨.hbm, 66, rfl⟩
abbrev main_call0_call0_v13 : Ref sig .tc := ⟨.hbm, 67, rfl⟩
abbrev main_call0_v30 : Ref sig .tc := ⟨.hbm, 68, rfl⟩
abbrev main_call0_v31 : Ref sig .tc := ⟨.hbm, 69, rfl⟩
abbrev main_call0_v32 : Ref sig .tc := ⟨.hbm, 70, rfl⟩
abbrev main_call0_v33 : Ref sig .tc := ⟨.hbm, 71, rfl⟩
abbrev main_call0_v34 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_v38 : Ref sig .tc := ⟨.hbm, 76, rfl⟩
abbrev main_call0_v39 : Ref sig .tc := ⟨.hbm, 77, rfl⟩
abbrev main_call0_v40 : Ref sig .tc := ⟨.hbm, 78, rfl⟩
abbrev main_call0_v41 : Ref sig .tc := ⟨.hbm, 79, rfl⟩
abbrev main_call0_v42 : Ref sig .tc := ⟨.hbm, 80, rfl⟩
abbrev main_call0_v43 : Ref sig .tc := ⟨.hbm, 81, rfl⟩
abbrev main_call0_v44 : Ref sig .tc := ⟨.hbm, 82, rfl⟩
abbrev main_call0_v45 : Ref sig .tc := ⟨.hbm, 83, rfl⟩
abbrev main_call0_v46 : Ref sig .tc := ⟨.hbm, 84, rfl⟩
abbrev main_call0_v47 : Ref sig .tc := ⟨.hbm, 85, rfl⟩
abbrev main_call0_v48 : Ref sig .tc := ⟨.hbm, 86, rfl⟩
abbrev main_call0_v49 : Ref sig .tc := ⟨.hbm, 87, rfl⟩
abbrev main_call0_v50 : Ref sig .tc := ⟨.hbm, 88, rfl⟩
abbrev main_call0_v51 : Ref sig .tc := ⟨.hbm, 89, rfl⟩
abbrev main_call0_v52 : Ref sig .tc := ⟨.hbm, 90, rfl⟩
abbrev main_v0 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_stg23_0 : Ref sig .tc := ⟨.vmem, 30, rfl⟩
abbrev cc0_stg24_0 : Ref sig .tc := ⟨.vmem, 31, rfl⟩
abbrev cc0_stg25_0 : Ref sig .tc := ⟨.vmem, 32, rfl⟩
abbrev cc0_stg26_0 : Ref sig .tc := ⟨.vmem, 33, rfl⟩
abbrev cc0_stg27_0 : Ref sig .tc := ⟨.vmem, 34, rfl⟩
abbrev cc0_stg27_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem21_0 : DmaSem sig := 28
abbrev cc0_sem22_0 : DmaSem sig := 29
abbrev cc0_sem23_0 : DmaSem sig := 30
abbrev cc0_sem24_0 : DmaSem sig := 31
abbrev cc0_sem25_0 : DmaSem sig := 32
abbrev cc0_sem26_0 : DmaSem sig := 33
abbrev cc0_sem27_0 : DmaSem sig := 34
abbrev cc0_sem27_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x32x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x4 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S32x5 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x5 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x5 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x5 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S16x5 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== KernelIdeal.lean ====
variable {F : FTy → Type} [FloatOps F] [Named F]
def κ : String → Option EReal := fun
  | "mask" => some ⊥
  | "slope" => some ((13421773 / 67108864 : ℝ) : EReal)
  | _ => none
-- ==== ReferenceIdeal.lean ====
abbrev S128x2145 : Shape := ⟨2, ![128, 2145]⟩
abbrev S32x32 : Shape := ⟨2, ![32, 32]⟩
abbrev S32 : Shape := ⟨1, ![32]⟩
abbrev S32x128 : Shape := ⟨2, ![32, 128]⟩
abbrev S128 : Shape := ⟨1, ![128]⟩
abbrev S3x128 : Shape := ⟨2, ![3, 128]⟩
abbrev S4x32 : Shape := ⟨2, ![4, 32]⟩
abbrev S128x128 : Shape := ⟨2, ![128, 128]⟩
abbrev S288x5 : Shape := ⟨2, ![288, 5]⟩
abbrev S5 : Shape := ⟨1, ![5]⟩
abbrev S128x1024 : Shape := ⟨2, ![128, 1024]⟩
abbrev S128x32x32 : Shape := ⟨3, ![128, 32, 32]⟩
abbrev S_ : Shape := ⟨0, ![]⟩
abbrev S128x32x32x1 : Shape := ⟨4, ![128, 32, 32, 1]⟩
abbrev S1x1x1x3 : Shape := ⟨4, ![1, 1, 1, 3]⟩
abbrev S128x32x32x3 : Shape := ⟨4, ![128, 32, 32, 3]⟩
abbrev S128x1 : Shape := ⟨2, ![128, 1]⟩
abbrev S128x1120 : Shape := ⟨2, ![128, 1120]⟩
abbrev S128x32x35 : Shape := ⟨3, ![128, 32, 35]⟩
abbrev S128x32x2 : Shape := ⟨3, ![128, 32, 2]⟩
abbrev S128x32x1x2 : Shape := ⟨4, ![128, 32, 1, 2]⟩
abbrev S128x1x32x2 : Shape := ⟨4, ![128, 1, 32, 2]⟩
abbrev S128x32x32x2 : Shape := ⟨4, ![128, 32, 32, 2]⟩
abbrev S1x32x32 : Shape := ⟨3, ![1, 32, 32]⟩
abbrev S1x1x32 : Shape := ⟨3, ![1, 1, 32]⟩
abbrev S128x2 : Shape := ⟨2, ![128, 2]⟩
abbrev S128x32 : Shape := ⟨2, ![128, 32]⟩
abbrev S128x32x1 : Shape := ⟨3, ![128, 32, 1]⟩
abbrev S128x32x128 : Shape := ⟨3, ![128, 32, 128]⟩
abbrev S1x1x128 : Shape := ⟨3, ![1, 1, 128]⟩
abbrev S128x32x4x32 : Shape := ⟨4, ![128, 32, 4, 32]⟩
abbrev S128x32x32x128 : Shape := ⟨4, ![128, 32, 32, 128]⟩
abbrev S128x32x32x4x32 : Shape := ⟨5, ![128, 32, 32, 4, 32]⟩
abbrev S128x32x1x4x32 : Shape := ⟨5, ![128, 32, 1, 4, 32]⟩
abbrev S128x1x32x4x32 : Shape := ⟨5, ![128, 1, 32, 4, 32]⟩
abbrev S4x128x32x32 : Shape := ⟨4, ![4, 128, 32, 32]⟩
abbrev S128x32x32x4 : Shape := ⟨4, ![128, 32, 32, 4]⟩
abbrev S128x32x4 : Shape := ⟨3, ![128, 32, 4]⟩
abbrev S128x1x32x4 : Shape := ⟨4, ![128, 1, 32, 4]⟩
abbrev S128x4x32x32 : Shape := ⟨4, ![128, 4, 32, 32]⟩
abbrev S128x288 : Shape := ⟨2, ![128, 288]⟩
abbrev S128x5 : Shape := ⟨2, ![128, 5]⟩
abbrev S1x5 : Shape := ⟨2, ![1, 5]⟩

abbrev nBuf : Space → Nat
  | .hbm => 263
  | .vmem => 0
  | .smem => 0
  | _ => 0

abbrev hbmTy0_0 (i : Nat) : BufTy := match i % 128 with
  | 0 => ⟨S128x2145, .f32⟩
  | 1 => ⟨S32x32, .f32⟩
  | 2 => ⟨S32, .f32⟩
  | 3 => ⟨S32x32, .f32⟩
  | 4 => ⟨S32, .f32⟩
  | 5 => ⟨S32x128, .f32⟩
  | 6 => ⟨S128, .f32⟩
  | 7 => ⟨S32x128, .f32⟩
  | 8 => ⟨S128, .f32⟩
  | 9 => ⟨S3x128, .f32⟩
  | 10 => ⟨S4x32, .f32⟩
  | 11 => ⟨S128, .f32⟩
  | 12 => ⟨S128x128, .f32⟩
  | 13 => ⟨S128, .f32⟩
  | 14 => ⟨S128x128, .f32⟩
  | 15 => ⟨S128, .f32⟩
  | 16 => ⟨S3x128, .f32⟩
  | 17 => ⟨S4x32, .f32⟩
  | 18 => ⟨S128, .f32⟩
  | 19 => ⟨S288x5, .f32⟩
  | 20 => ⟨S5, .f32⟩
  | 21 => ⟨S128x1024, .f32⟩
  | 22 => ⟨S128x32x32, .f32⟩
  | 23 => ⟨S128x32x32, .i32⟩
  | 24 => ⟨S_, .i32⟩
  | 25 => ⟨S_, .i32⟩
  | 26 => ⟨S128x32x32, .i32⟩
  | 27 => ⟨S128x32x32, .i32⟩
  | 28 => ⟨S128x32x32x1, .i32⟩
  | 29 => ⟨S1x1x1x3, .i32⟩
  | 30 => ⟨S128x32x32x3, .i32⟩
  | 31 => ⟨S128x32x32x3, .i32⟩
  | 32 => ⟨S128x32x32x3, .i1⟩
  | 33 => ⟨S128x32x32x3, .f32⟩
  | 34 => ⟨S128x1, .f32⟩
  | 35 => ⟨S128, .f32⟩
  | 36 => ⟨S128, .i32⟩
  | 37 => ⟨S128x1120, .f32⟩
  | 38 => ⟨S128x32x35, .f32⟩
  | 39 => ⟨S128x32x2, .f32⟩
  | 40 => ⟨S128x32x1x2, .f32⟩
  | 41 => ⟨S128x1x32x2, .f32⟩
  | 42 => ⟨S128x32x32x2, .f32⟩
  | 43 => ⟨S128x32x32x2, .f32⟩
  | 44 => ⟨S128x32x32x2, .f32⟩
  | 45 => ⟨S128x32x32x2, .f32⟩
  | 46 => ⟨S_, .f32⟩
  | 47 => ⟨S128x32x32, .f32⟩
  | 48 => ⟨S32x32, .i32⟩
  | 49 => ⟨S32x32, .i32⟩
  | 50 => ⟨S_, .i32⟩
  | 51 => ⟨S32x32, .i32⟩
  | 52 => ⟨S32x32, .i32⟩
  | 53 => ⟨S32x32, .i1⟩
  | 54 => ⟨S_, .f32⟩
  | 55 => ⟨S128x32x32, .f32⟩
  | 56 => ⟨S128x32x32, .i1⟩
  | 57 => ⟨S32x32, .i1⟩
  | 58 => ⟨S1x32x32, .i1⟩
  | 59 => ⟨S128x32x32, .i1⟩
  | 60 => ⟨S128x32x32, .i1⟩
  | 61 => ⟨S128x1120, .f32⟩
  | 62 => ⟨S128x32x35, .f32⟩
  | 63 => ⟨S128x32x32, .f32⟩
  | 64 => ⟨S128x32x32, .f32⟩
  | 65 => ⟨S1x1x32, .f32⟩
  | 66 => ⟨S128x32x32, .f32⟩
  | 67 => ⟨S128x32x32, .f32⟩
  | 68 => ⟨S_, .f32⟩
  | 69 => ⟨S128x32x32, .f32⟩
  | 70 => ⟨S128x32x32, .f32⟩
  | 71 => ⟨S128x32x32, .f32⟩
  | 72 => ⟨S1x1x32, .f32⟩
  | 73 => ⟨S128x32x32, .f32⟩
  | 74 => ⟨S128x32x32, .f32⟩
  | 75 => ⟨S_, .f32⟩
  | 76 => ⟨S128x32x32, .f32⟩
  | 77 => ⟨S128x32x32, .f32⟩
  | 78 => ⟨S128, .i32⟩
  | 79 => ⟨S_, .i32⟩
  | 80 => ⟨S128, .i32⟩
  | 81 => ⟨S128, .i1⟩
  | 82 => ⟨S_, .i32⟩
  | 83 => ⟨S128, .i32⟩
  | 84 => ⟨S128, .i32⟩
  | 85 => ⟨S128, .i32⟩
  | 86 => ⟨S_, .i32⟩
  | 87 => ⟨S128, .i32⟩
  | 88 => ⟨S128, .i1⟩
  | 89 => ⟨S_, .i32⟩
  | 90 => ⟨S128, .i32⟩
  | 91 => ⟨S128, .i32⟩
  | 92 => ⟨S128, .i32⟩
  | 93 => ⟨S128x1, .i32⟩
  | 94 => ⟨S128x1, .i32⟩
  | 95 => ⟨S128x2, .i32⟩
  | 96 => ⟨S128x32, .f32⟩
  | 97 => ⟨S128x1120, .f32⟩
  | 98 => ⟨S128x32x35, .f32⟩
  | 99 => ⟨S128x32x1, .f32⟩
  | 100 => ⟨S128x32x128, .f32⟩
  | 101 => ⟨S1x1x128, .f32⟩
  | 102 => ⟨S128x32x128, .f32⟩
  | 103 => ⟨S128x32x128, .f32⟩
  | 104 => ⟨S128x32x4x32, .f32⟩
  | 105 => ⟨S128x32x128, .f32⟩
  | 106 => ⟨S1x1x128, .f32⟩
  | 107 => ⟨S128x32x128, .f32⟩
  | 108 => ⟨S128x32x128, .f32⟩
  | 109 => ⟨S128x32x4x32, .f32⟩
  | 110 => ⟨S128x32x32x128, .f32⟩
  | 111 => ⟨S128x32x32x4x32, .f32⟩
  | 112 => ⟨S128x32x1x4x32, .f32⟩
  | 113 => ⟨S128x1x32x4x32, .f32⟩
  | 114 => ⟨S128x32x32x4x32, .f32⟩
  | 115 => ⟨S128x32x32x4x32, .f32⟩
  | 116 => ⟨S128x32x32x4x32, .f32⟩
  | 117 => ⟨S128x32x32x4x32, .f32⟩
  | 118 => ⟨S_, .f32⟩
  | 119 => ⟨S128x32x32x4x32, .f32⟩
  | 120 => ⟨S128x32x32x4x32, .i1⟩
  | 121 => ⟨S_, .f32⟩
  | 122 => ⟨S128x32x32x4x32, .f32⟩
  | 123 => ⟨S128x32x32x4x32, .f32⟩
  | 124 => ⟨S128x32x32x4x32, .f32⟩
  | 125 => ⟨S4x128x32x32, .f32⟩
  | 126 => ⟨S128x32x32x4, .f32⟩
  | 127 => ⟨S128x32x32x1, .i1⟩
  | _ => ⟨S128x2145, .f32⟩

abbrev hbmTy0_1 (i : Nat) : BufTy := match i % 128 with
  | 0 => ⟨S_, .f32⟩
  | 1 => ⟨S_, .f32⟩
  | 2 => ⟨S128x32x32x4, .i1⟩
  | 3 => ⟨S128x32x32x4, .f32⟩
  | 4 => ⟨S128x32x32x4, .f32⟩
  | 5 => ⟨S_, .f32⟩
  | 6 => ⟨S128x32x4, .f32⟩
  | 7 => ⟨S128x1x32x4, .f32⟩
  | 8 => ⟨S128x32x32x4, .f32⟩
  | 9 => ⟨S128x32x32x4, .f32⟩
  | 10 => ⟨S128x32x32x4, .f32⟩
  | 11 => ⟨S128x32x32x1, .i1⟩
  | 12 => ⟨S128x32x32x1, .f32⟩
  | 13 => ⟨S128x32x32x4, .f32⟩
  | 14 => ⟨S128x32x32x4, .f32⟩
  | 15 => ⟨S_, .f32⟩
  | 16 => ⟨S128x32x4, .f32⟩
  | 17 => ⟨S128x1x32x4, .f32⟩
  | 18 => ⟨S_, .f32⟩
  | 19 => ⟨S128x1x32x4, .f32⟩
  | 20 => ⟨S128x1x32x4, .f32⟩
  | 21 => ⟨S128x32x32x4, .f32⟩
  | 22 => ⟨S128x32x32x4, .f32⟩
  | 23 => ⟨S128x4x32x32, .f32⟩
  | 24 => ⟨S128x32x4x32, .f32⟩
  | 25 => ⟨S128x32x128, .f32⟩
  | 26 => ⟨S1x1x128, .f32⟩
  | 27 => ⟨S128x32x128, .f32⟩
  | 28 => ⟨S128x32x128, .f32⟩
  | 29 => ⟨S_, .f32⟩
  | 30 => ⟨S128x32x128, .f32⟩
  | 31 => ⟨S128x32x128, .f32⟩
  | 32 => ⟨S128x32x128, .f32⟩
  | 33 => ⟨S128x32x128, .f32⟩
  | 34 => ⟨S_, .i32⟩
  | 35 => ⟨S128, .i32⟩
  | 36 => ⟨S128, .i1⟩
  | 37 => ⟨S_, .i32⟩
  | 38 => ⟨S128, .i32⟩
  | 39 => ⟨S128, .i32⟩
  | 40 => ⟨S128, .i32⟩
  | 41 => ⟨S_, .i32⟩
  | 42 => ⟨S128, .i32⟩
  | 43 => ⟨S128, .i1⟩
  | 44 => ⟨S_, .i32⟩
  | 45 => ⟨S128, .i32⟩
  | 46 => ⟨S128, .i32⟩
  | 47 => ⟨S128, .i32⟩
  | 48 => ⟨S128x1, .i32⟩
  | 49 => ⟨S128x1, .i32⟩
  | 50 => ⟨S128x2, .i32⟩
  | 51 => ⟨S128x128, .f32⟩
  | 52 => ⟨S128x32x128, .f32⟩
  | 53 => ⟨S1x1x128, .f32⟩
  | 54 => ⟨S128x32x128, .f32⟩
  | 55 => ⟨S128x32x128, .f32⟩
  | 56 => ⟨S128x32x4x32, .f32⟩
  | 57 => ⟨S128x32x128, .f32⟩
  | 58 => ⟨S1x1x128, .f32⟩
  | 59 => ⟨S128x32x128, .f32⟩
  | 60 => ⟨S128x32x128, .f32⟩
  | 61 => ⟨S128x32x4x32, .f32⟩
  | 62 => ⟨S128x32x32x128, .f32⟩
  | 63 => ⟨S128x32x32x4x32, .f32⟩
  | 64 => ⟨S128x32x1x4x32, .f32⟩
  | 65 => ⟨S128x1x32x4x32, .f32⟩
  | 66 => ⟨S128x32x32x4x32, .f32⟩
  | 67 => ⟨S128x32x32x4x32, .f32⟩
  | 68 => ⟨S128x32x32x4x32, .f32⟩
  | 69 => ⟨S128x32x32x4x32, .f32⟩
  | 70 => ⟨S_, .f32⟩
  | 71 => ⟨S128x32x32x4x32, .f32⟩
  | 72 => ⟨S128x32x32x4x32, .i1⟩
  | 73 => ⟨S_, .f32⟩
  | 74 => ⟨S128x32x32x4x32, .f32⟩
  | 75 => ⟨S128x32x32x4x32, .f32⟩
  | 76 => ⟨S128x32x32x4x32, .f32⟩
  | 77 => ⟨S4x128x32x32, .f32⟩
  | 78 => ⟨S128x32x32x4, .f32⟩
  | 79 => ⟨S128x32x32x1, .i1⟩
  | 80 => ⟨S_, .f32⟩
  | 81 => ⟨S_, .f32⟩
  | 82 => ⟨S128x32x32x4, .i1⟩
  | 83 => ⟨S128x32x32x4, .f32⟩
  | 84 => ⟨S128x32x32x4, .f32⟩
  | 85 => ⟨S_, .f32⟩
  | 86 => ⟨S128x32x4, .f32⟩
  | 87 => ⟨S128x1x32x4, .f32⟩
  | 88 => ⟨S128x32x32x4, .f32⟩
  | 89 => ⟨S128x32x32x4, .f32⟩
  | 90 => ⟨S128x32x32x4, .f32⟩
  | 91 => ⟨S128x32x32x1, .i1⟩
  | 92 => ⟨S128x32x32x1, .f32⟩
  | 93 => ⟨S128x32x32x4, .f32⟩
  | 94 => ⟨S128x32x32x4, .f32⟩
  | 95 => ⟨S_, .f32⟩
  | 96 => ⟨S128x32x4, .f32⟩
  | 97 => ⟨S128x1x32x4, .f32⟩
  | 98 => ⟨S_, .f32⟩
  | 99 => ⟨S128x1x32x4, .f32⟩
  | 100 => ⟨S128x1x32x4, .f32⟩
  | 101 => ⟨S128x32x32x4, .f32⟩
  | 102 => ⟨S128x32x32x4, .f32⟩
  | 103 => ⟨S128x4x32x32, .f32⟩
  | 104 => ⟨S128x32x4x32, .f32⟩
  | 105 => ⟨S128x32x128, .f32⟩
  | 106 => ⟨S1x1x128, .f32⟩
  | 107 => ⟨S128x32x128, .f32⟩
  | 108 => ⟨S128x32x128, .f32⟩
  | 109 => ⟨S_, .f32⟩
  | 110 => ⟨S128x32x128, .f32⟩
  | 111 => ⟨S128x32x128, .f32⟩
  | 112 => ⟨S_, .i32⟩
  | 113 => ⟨S128, .i32⟩
  | 114 => ⟨S128, .i1⟩
  | 115 => ⟨S_, .i32⟩
  | 116 => ⟨S128, .i32⟩
  | 117 => ⟨S128, .i32⟩
  | 118 => ⟨S128, .i32⟩
  | 119 => ⟨S_, .i32⟩
  | 120 => ⟨S128, .i32⟩
  | 121 => ⟨S128, .i1⟩
  | 122 => ⟨S_, .i32⟩
  | 123 => ⟨S128, .i32⟩
  | 124 => ⟨S128, .i32⟩
  | 125 => ⟨S128, .i32⟩
  | 126 => ⟨S128x1, .i32⟩
  | 127 => ⟨S128x1, .i32⟩
  | _ => ⟨S128x2145, .f32⟩

abbrev hbmTy0_2 (i : Nat) : BufTy := match i % 128 with
  | 0 => ⟨S128x2, .i32⟩
  | 1 => ⟨S128x128, .f32⟩
  | 2 => ⟨S128x288, .f32⟩
  | 3 => ⟨S128x5, .f32⟩
  | 4 => ⟨S1x5, .f32⟩
  | 5 => ⟨S128x5, .f32⟩
  | 6 => ⟨S128x5, .f32⟩
  | _ => ⟨S128x2145, .f32⟩

abbrev hbmTy (i : Nat) : BufTy := match i / 128 with
  | 0 => hbmTy0_0 i
  | 1 => hbmTy0_1 i
  | 2 => hbmTy0_2 i
  | _ => ⟨S128x2145, .f32⟩

abbrev bufTy : (tb : Table) → Fin (tcTables nBuf tb) → BufTy
  | .hbm, ⟨i, _⟩ => hbmTy i
  | _, _ => ⟨S128x2145, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_v3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_0 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_1 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_call2_cst : Ref sig .tc := ⟨.hbm, 68, rfl⟩
abbrev main_call2_v0 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call3_cst : Ref sig .tc := ⟨.hbm, 75, rfl⟩
abbrev main_call3_v0 : Ref sig .tc := ⟨.hbm, 76, rfl⟩
abbrev main_v41 : Ref sig .tc := ⟨.hbm, 77, rfl⟩
abbrev main_v42 : Ref sig .tc := ⟨.hbm, 78, rfl⟩
abbrev main_c_2 : Ref sig .tc := ⟨.hbm, 79, rfl⟩
abbrev main_v43 : Ref sig .tc := ⟨.hbm, 80, rfl⟩
abbrev main_v44 : Ref sig .tc := ⟨.hbm, 81, rfl⟩
abbrev main_c_3 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_c_4 : Ref sig .tc := ⟨.hbm, 86, rfl⟩
abbrev main_v48 : Ref sig .tc := ⟨.hbm, 87, rfl⟩
abbrev main_v49 : Ref sig .tc := ⟨.hbm, 88, rfl⟩
abbrev main_c_5 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_6 : Ref sig .tc := ⟨.hbm, 118, rfl⟩
abbrev main_v78 : Ref sig .tc := ⟨.hbm, 119, rfl⟩
abbrev main_v79 : Ref sig .tc := ⟨.hbm, 120, rfl⟩
abbrev main_cst_7 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_8 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_v86 : Ref sig .tc := ⟨.hbm, 132, rfl⟩
abbrev main_cst_9 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_10 : Ref sig .tc := ⟨.hbm, 143, rfl⟩
abbrev main_v96 : Ref sig .tc := ⟨.hbm, 144, rfl⟩
abbrev main_v97 : Ref sig .tc := ⟨.hbm, 145, rfl⟩
abbrev main_cst_11 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_call6_cst : Ref sig .tc := ⟨.hbm, 157, rfl⟩
abbrev main_call6_v0 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_c_12 : Ref sig .tc := ⟨.hbm, 162, rfl⟩
abbrev main_v111 : Ref sig .tc := ⟨.hbm, 163, rfl⟩
abbrev main_v112 : Ref sig .tc := ⟨.hbm, 164, rfl⟩
abbrev main_c_13 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_c_14 : Ref sig .tc := ⟨.hbm, 169, rfl⟩
abbrev main_v116 : Ref sig .tc := ⟨.hbm, 170, rfl⟩
abbrev main_v117 : Ref sig .tc := ⟨.hbm, 171, rfl⟩
abbrev main_c_15 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_16 : Ref sig .tc := ⟨.hbm, 198, rfl⟩
abbrev main_v143 : Ref sig .tc := ⟨.hbm, 199, rfl⟩
abbrev main_v144 : Ref sig .tc := ⟨.hbm, 200, rfl⟩
abbrev main_cst_17 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_18 : Ref sig .tc := ⟨.hbm, 208, rfl⟩
abbrev main_call8_v0 : Ref sig .tc := ⟨.hbm, 209, rfl⟩
abbrev main_call8_v1 : Ref sig .tc := ⟨.hbm, 210, rfl⟩
abbrev main_call8_v2 : Ref sig .tc := ⟨.hbm, 211, rfl⟩
abbrev main_v151 : Ref sig .tc := ⟨.hbm, 212, rfl⟩
abbrev main_cst_19 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_cst_20 : Ref sig .tc := ⟨.hbm, 223, rfl⟩
abbrev main_v161 : Ref sig .tc := ⟨.hbm, 224, rfl⟩
abbrev main_v162 : Ref sig .tc := ⟨.hbm, 225, rfl⟩
abbrev main_cst_21 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_call9_cst : Ref sig .tc := ⟨.hbm, 237, rfl⟩
abbrev main_call9_v0 : Ref sig .tc := ⟨.hbm, 238, rfl⟩
abbrev main_v173 : Ref sig .tc := ⟨.hbm, 239, rfl⟩
abbrev main_c_22 : Ref sig .tc := ⟨.hbm, 240, rfl⟩
abbrev main_v174 : Ref sig .tc := ⟨.hbm, 241, rfl⟩
abbrev main_v175 : Ref sig .tc := ⟨.hbm, 242, rfl⟩
abbrev main_c_23 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_c_24 : Ref sig .tc := ⟨.hbm, 247, rfl⟩
abbrev main_v179 : Ref sig .tc := ⟨.hbm, 248, rfl⟩
abbrev main_v180 : Ref sig .tc := ⟨.hbm, 249, rfl⟩
abbrev main_c_25 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩

abbrev nD : Nat := 1
abbrev τ : Topo := Topo.v7x

variable {F : FTy → Type} [FloatOps F]
-- ==== Proof.KernelIdealFrame.lean ====
/-
The frame of `KernelIdeal`: the arrays' contents when the pipelined region is entered (`V`), each window's block at a grid
point (`iblk`), what the body leaves in the result's buffer (`out0_27`), the body's triple (`sound_kernel`), the proof
data (`dats`), the run (`run_main`) and the claim that the arguments end unchanged and every counter at zero (`frame`).
It is the text of the generated module `Gen.KernelIdeal.Frame` with a larger budget at `sound_body` and `body_obligation`: the
kernel has 28 windows, so that these two steps, which handle them all at once, go over the default budget.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1680000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_main_arg0 m c),
      ((h c).1 7).trans (((dats 0 c).arrAt_in 7 rfl _).trans ((hA c 7).trans (V_main_arg1 m c))),
      ((h c).2 main_arg2 (Pipeline.mem_restRefs_of main_arg2 (by decide) (by decide))).trans (V_main_arg2 m c),
      ((h c).1 9).trans (((dats 0 c).arrAt_in 9 rfl _).trans ((hA c 9).trans (V_main_arg3 m c))),
      ((h c).2 main_arg4 (Pipeline.mem_restRefs_of main_arg4 (by decide) (by decide))).trans (V_main_arg4 m c),
      ((h c).1 11).trans (((dats 0 c).arrAt_in 11 rfl _).trans ((hA c 11).trans (V_main_arg5 m c))),
      ((h c).2 main_arg6 (Pipeline.mem_restRefs_of main_arg6 (by decide) (by decide))).trans (V_main_arg6 m c),
      ((h c).1 13).trans (((dats 0 c).arrAt_in 13 rfl _).trans ((hA c 13).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 17).trans (((dats 0 c).arrAt_in 17 rfl _).trans ((hA c 17).trans (V_main_arg12 m c))),
      ((h c).2 main_arg13 (Pipeline.mem_restRefs_of main_arg13 (by decide) (by decide))).trans (V_main_arg13 m c),
      ((h c).1 19).trans (((dats 0 c).arrAt_in 19 rfl _).trans ((hA c 19).trans (V_main_arg14 m c))),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

/-! ## The body's accesses -/

abbrev r0_0 : Rect S16x32x32 := Rect.unit (s := S16x32x32) ![0, 0, 0] S16x32x32.size inb_S16x32x32_S16x32x32_0_0_0
abbrev r0_1 : Rect S32x32 := Rect.unit (s := S32x32) ![0, 0] S32x32.size inb_S32x32_S32x32_0_0
abbrev r0_2 : Rect S1x32 := Rect.unit (s := S1x32) ![0, 0] S1x32.size inb_S1x32_S1x32_0_0
abbrev r0_3 : Rect S16x1 := Rect.unit (s := S16x1) ![0, 0] S16x1.size inb_S16x1_S16x1_0_0
abbrev r0_4 : Rect S16x32x1x1 := Rect.unit (s := S16x32x1x1) ![0, 0, 0, 0] S16x32x1x1.size inb_S16x32x1x1_S16x32x1x1_0_0_0_0
abbrev r0_5 : Rect S16x1x1x32 := Rect.unit (s := S16x1x1x32) ![0, 0, 0, 0] S16x1x1x32.size inb_S16x1x1x32_S16x1x1x32_0_0_0_0
abbrev r0_6 : Rect S32x128 := Rect.unit (s := S32x128) ![0, 0] S32x128.size inb_S32x128_S32x128_0_0
abbrev r0_7 : Rect S1x128 := Rect.unit (s := S1x128) ![0, 0] S1x128.size inb_S1x128_S1x128_0_0
abbrev r0_8 : Rect S128x4 := Rect.unit (s := S128x4) ![0, 0] S128x4.size inb_S128x4_S128x4_0_0
abbrev r0_9 : Rect S16x32x1 := Rect.unit (s := S16x32x1) ![0, 0, 0] S16x32x1.size inb_S16x32x1_S16x32x1_0_0_0
abbrev r0_10 : Rect S128x128 := Rect.unit (s := S128x128) ![0, 0] S128x128.size inb_S128x128_S128x128_0_0
abbrev r0_11 : Rect S32x5 := Rect.unit (s := S32x5) ![0, 0] S32x5.size inb_S32x5_S32x5_0_0
abbrev r0_12 : Rect S128x5 := Rect.unit (s := S128x5) ![0, 0] S128x5.size inb_S128x5_S128x5_0_0
abbrev r0_13 : Rect S1x5 := Rect.unit (s := S1x5) ![0, 0] S1x5.size inb_S1x5_S1x5_0_0
abbrev r0_14 : Rect S16x5 := Rect.unit (s := S16x5) ![0, 0] S16x5.size inb_S16x5_S16x5_0_0

/-! ## What the body leaves in each output window's buffer -/

/-! ### Values of the body that the stores' payloads, spelt out, would write more than once

    Each is a vector the body binds (often a part call's result), stated over the input windows' blocks and
    numbered on from the skeleton's payload functions (`k0_pay22` …, after `k0_pay21`), so that
    `out0_W` and the values after it name it instead of spelling it out; the comment after each is the printed function's
    name for the value (a count appended where that name is bound again). -/

def k0_pay22 (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) : FVec F S4x128 .f32 :=
  k0_pay2 (F := F) -- `v28`
def k0_pay23 (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) : FVec F S512x32 .f32 :=
  k0_pay3 (View.ld x0 r0_0) (View.ld x7 r0_1) (View.ld x8 r0_2) -- `v39`
def k0_pay24 (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) : IVec S1x32x1x32 32 :=
  iota .tc S1x32x1x32 32 [1] iota_S1x32x1x32_d1_w32 -- `v74`
def k0_pay25 (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) : IVec S1x32x1x32 32 :=
  iota .tc S1x32x1x32 32 [3] iota_S1x32x1x32_d3_w32 -- `v75`
def k0_pay26 (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) : FVec F S512x32 .f32 :=
  k0_pay4 (k0_pay23 x0 x1 x2 x3 x4 x5 x6 x7 x8 x9 x10 x11 x12 x13 x14 x15 x16 x17 x18 x19 x20 x21 x22 x23 x24 x25 x26) (View.ld x9 r0_1) (View.ld x10 r0_2) -- `v47`
def k0_pay27 (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) : FVec F S16x32 .f32 :=
  k0_pay5 (View.ld x6 r0_3) -- `v54`
def k0_pay28 (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) : FVec F S16x32x1x32 .f32 :=
  k0_pay7 (View.ld x1 r0_4) (View.ld x2 r0_5) (View.ld x3 r0_4) (View.ld x4 r0_5) -- `v73`
def k0_pay29 (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) : FVec F S16x32x1x32 .f32 :=
  k0_pay8 (F := F) -- `v76`
def k0_pay30 (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) : FVec F S1x128 .f32 :=
  k0_pay10 (View.ld x16 r0_7) -- `v90`
def k0_pay31 (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) : FVec F S16x32x128 .f32 :=
  k0_pay11 (k0_pay26 x0 x1 x2 x3 x4 x5 x6 x7 x8 x9 x10 x11 x12 x13 x14 x15 x16 x17 x18 x19 x20 x21 x22 x23 x24 x25 x26) (View.ld x11 r0_6) (View.ld x12 r0_7) -- `v97`
def k0_pay32 (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) : FVec F S16x32x4x32 .f32 :=
  k0_pay12 (k0_pay26 x0 x1 x2 x3 x4 x5 x6 x7 x8 x9 x10 x11 x12 x13 x14 x15 x16 x17 x18 x19 x20 x21 x22 x23 x24 x25 x26) (k0_pay28 x0 x1 x2 x3 x4 x5 x6 x7 x8 x9 x10 x11 x12 x13 x14 x15 x16 x17 x18 x19 x20 x21 x22 x23 x24 x25 x26) (k0_pay24 x0 x1 x2 x3 x4 x5 x6 x7 x8 x9 x10 x11 x12 x13 x14 x15 x16 x17 x18 x19 x20 x21 x22 x23 x24 x25 x26) (k0_pay25 x0 x1 x2 x3 x4 x5 x6 x7 x8 x9 x10 x11 x12 x13 x14 x15 x16 x17 x18 x19 x20 x21 x22 x23 x24 x25 x26) (k0_pay29 x0 x1 x2 x3 x4 x5 x6 x7 x8 x9 x10 x11 x12 x13 x14 x15 x16 x17 x18 x19 x20 x21 x22 x23 x24 x25 x26) (View.ld x11 r0_6) (View.ld x12 r0_7) (View.ld x13 r0_6) (View.ld x14 r0_7) (View.ld x15 r0_8) -- `v117`
def k0_pay33 (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) : FVec F S16x32x4 .f32 :=
  k0_pay13 (k0_pay26 x0 x1 x2 x3 x4 x5 x6 x7 x8 x9 x10 x11 x12 x13 x14 x15 x16 x17 x18 x19 x20 x21 x22 x23 x24 x25 x26) (k0_pay28 x0 x1 x2 x3 x4 x5 x6 x7 x8 x9 x10 x11 x12 x13 x14 x15 x16 x17 x18 x19 x20 x21 x22 x23 x24 x25 x26) (k0_pay24 x0 x1 x2 x3 x4 x5 x6 x7 x8 x9 x10 x11 x12 x13 x14 x15 x16 x17 x18 x19 x20 x21 x22 x23 x24 x25 x26) (k0_pay25 x0 x1 x2 x3 x4 x5 x6 x7 x8 x9 x10 x11 x12 x13 x14 x15 x16 x17 x18 x19 x20 x21 x22 x23 x24 x25 x26) (k0_pay29 x0 x1 x2 x3 x4 x5 x6 x7 x8 x9 x10 x11 x12 x13 x14 x15 x16 x17 x18 x19 x20 x21 x22 x23 x24 x25 x26) (View.ld x11 r0_6) (View.ld x12 r0_7) (View.ld x13 r0_6) (View.ld x14 r0_7) (View.ld x15 r0_8) -- `v118`

/-- Window 27's staging buffer after the body, from the input windows' blocks: its 1 store as pieces, LAST
    FIRST (Lib/Pipeline/FrameBody.lean `View.canon`; the payloads are the skeleton's and the values stated above). -/
def out0_27 (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) : Vec F S16x5 .f32 :=
  View.canon [⟨r0_14, k0_pay1 (k0_pay27 x0 x1 x2 x3 x4 x5 x6 x7 x8 x9 x10 x11 x12 x13 x14 x15 x16 x17 x18 x19 x20 x21 x22 x23 x24 x25 x26) (k0_pay6 (k0_pay23 x0 x1 x2 x3 x4 x5 x6 x7 x8 x9 x10 x11 x12 x13 x14 x15 x16 x17 x18 x19 x20 x21 x22 x23 x24 x25 x26) (View.ld x9 r0_1) (View.ld x10 r0_2) (View.ld x6 r0_3)) (k0_pay15 (k0_pay22 x0 x1 x2 x3 x4 x5 x6 x7 x8 x9 x10 x11 x12 x13 x14 x15 x16 x17 x18 x19 x20 x21 x22 x23 x24 x25 x26) (k0_pay27 x0 x1 x2 x3 x4 x5 x6 x7 x8 x9 x10 x11 x12 x13 x14 x15 x16 x17 x18 x19 x20 x21 x22 x23 x24 x25 x26) (k0_pay30 x0 x1 x2 x3 x4 x5 x6 x7 x8 x9 x10 x11 x12 x13 x14 x15 x16 x17 x18 x19 x20 x21 x22 x23 x24 x25 x26) (k0_pay31 x0 x1 x2 x3 x4 x5 x6 x7 x8 x9 x10 x11 x12 x13 x14 x15 x16 x17 x18 x19 x20 x21 x22 x23 x24 x25 x26) (k0_pay32 x0 x1 x2 x3 x4 x5 x6 x7 x8 x9 x10 x11 x12 x13 x14 x15 x16 x17 x18 x19 x20 x21 x22 x23 x24 x25 x26) (k0_pay33 x0 x1 x2 x3 x4 x5 x6 x7 x8 x9 x10 x11 x12 x13 x14 x15 x16 x17 x18 x19 x20 x21 x22 x23 x24 x25 x26)) (k0_pay20 (View.ld x22 r0_7)) (k0_pay21 (k0_pay22 x0 x1 x2 x3 x4 x5 x6 x7 x8 x9 x10 x11 x12 x13 x14 x15 x16 x17 x18 x19 x20 x21 x22 x23 x24 x25 x26) (k0_pay9 (k0_pay28 x0 x1 x2 x3 x4 x5 x6 x7 x8 x9 x10 x11 x12 x13 x14 x15 x16 x17 x18 x19 x20 x21 x22 x23 x24 x25 x26) (k0_pay24 x0 x1 x2 x3 x4 x5 x6 x7 x8 x9 x10 x11 x12 x13 x14 x15 x16 x17 x18 x19 x20 x21 x22 x23 x24 x25 x26) (k0_pay25 x0 x1 x2 x3 x4 x5 x6 x7 x8 x9 x10 x11 x12 x13 x14 x15 x16 x17 x18 x19 x20 x21 x22 x23 x24 x25 x26) (k0_pay29 x0 x1 x2 x3 x4 x5 x6 x7 x8 x9 x10 x11 x12 x13 x14 x15 x16 x17 x18 x19 x20 x21 x22 x23 x24 x25 x26)) (k0_pay16 (k0_pay22 x0 x1 x2 x3 x4 x5 x6 x7 x8 x9 x10 x11 x12 x13 x14 x15 x16 x17 x18 x19 x20 x21 x22 x23 x24 x25 x26) (k0_pay30 x0 x1 x2 x3 x4 x5 x6 x7 x8 x9 x10 x11 x12 x13 x14 x15 x16 x17 x18 x19 x20 x21 x22 x23 x24 x25 x26) (k0_pay31 x0 x1 x2 x3 x4 x5 x6 x7 x8 x9 x10 x11 x12 x13 x14 x15 x16 x17 x18 x19 x20 x21 x22 x23 x24 x25 x26) (k0_pay32 x0 x1 x2 x3 x4 x5 x6 x7 x8 x9 x10 x11 x12 x13 x14 x15 x16 x17 x18 x19 x20 x21 x22 x23 x24 x25 x26) (k0_pay33 x0 x1 x2 x3 x4 x5 x6 x7 x8 x9 x10 x11 x12 x13 x14 x15 x16 x17 x18 x19 x20 x21 x22 x23 x24 x25 x26) (View.ld x5 r0_9)) (View.ld x17 r0_10) (k0_pay17 (View.ld x18 r0_7)) (View.ld x19 r0_10) (k0_pay18 (View.ld x20 r0_7)) (k0_pay19 (View.ld x21 r0_8))) (View.ld x23 r0_11) (View.ld x24 r0_12) (View.ld x25 r0_12) (View.ld x26 r0_13)⟩]

/-- Its stores tile the buffer (checked by evaluation), so they cover it. -/
theorem cover0_27 (p0 : Vec F S16x5 .f32) (y : S16x5.Idx) :
    ∃ pc ∈ ([⟨r0_14, p0⟩] : List (View.Piece (Elt F) S16x5 .f32)), y ∈ pc.1.set :=
  View.cover_of_tiled [⟨r0_14, p0⟩] S16x5.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S16x32x32 .f32) (harg1 : arg1.IsWhole) (arg2 : Memref sig .tc .vmem S16x32x1x1 .f32) (harg2 : arg2.IsWhole) (arg3 : Memref sig .tc .vmem S16x1x1x32 .f32) (harg3 : arg3.IsWhole) (arg4 : Memref sig .tc .vmem S16x32x1x1 .f32) (harg4 : arg4.IsWhole) (arg5 : Memref sig .tc .vmem S16x1x1x32 .f32) (harg5 : arg5.IsWhole) (arg6 : Memref sig .tc .vmem S16x32x1 .f32) (harg6 : arg6.IsWhole) (arg7 : Memref sig .tc .vmem S16x1 .i32) (harg7 : arg7.IsWhole) (arg8 : Memref sig .tc .vmem S32x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x128 .f32) (harg12 : arg12.IsWhole) (arg13 : Memref sig .tc .vmem S1x128 .f32) (harg13 : arg13.IsWhole) (arg14 : Memref sig .tc .vmem S32x128 .f32) (harg14 : arg14.IsWhole) (arg15 : Memref sig .tc .vmem S1x128 .f32) (harg15 : arg15.IsWhole) (arg16 : Memref sig .tc .vmem S128x4 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x4 .f32) (harg22 : arg22.IsWhole) (arg23 : Memref sig .tc .vmem S1x128 .f32) (harg23 : arg23.IsWhole) (arg24 : Memref sig .tc .vmem S32x5 .f32) (harg24 : arg24.IsWhole) (arg25 : Memref sig .tc .vmem S128x5 .f32) (harg25 : arg25.IsWhole) (arg26 : Memref sig .tc .vmem S128x5 .f32) (harg26 : arg26.IsWhole) (arg27 : Memref sig .tc .vmem S1x5 .f32) (harg27 : arg27.IsWhole) (arg28 : Memref sig .tc .vmem S16x5 .f32) (harg28 : arg28.IsWhole)
    (x0 : Vec F S16x32x32 .f32) (x1 : Vec F S16x32x1x1 .f32) (x2 : Vec F S16x1x1x32 .f32) (x3 : Vec F S16x32x1x1 .f32) (x4 : Vec F S16x1x1x32 .f32) (x5 : Vec F S16x32x1 .f32) (x6 : Vec F S16x1 .i32) (x7 : Vec F S32x32 .f32) (x8 : Vec F S1x32 .f32) (x9 : Vec F S32x32 .f32) (x10 : Vec F S1x32 .f32) (x11 : Vec F S32x128 .f32) (x12 : Vec F S1x128 .f32) (x13 : Vec F S32x128 .f32) (x14 : Vec F S1x128 .f32) (x15 : Vec F S128x4 .f32) (x16 : Vec F S1x128 .f32) (x17 : Vec F S128x128 .f32) (x18 : Vec F S1x128 .f32) (x19 : Vec F S128x128 .f32) (x20 : Vec F S1x128 .f32) (x21 : Vec F S128x4 .f32) (x22 : Vec F S1x128 .f32) (x23 : Vec F S32x5 .f32) (x24 : Vec F S128x5 .f32) (x25 : Vec F S128x5 .f32) (x26 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare (out0_27 x0 x1 x2 x3 x4 x5 x6 x7 x8 x9 x10 x11 x12 x13 x14 x15 x16 x17 x18 x19 x20 x21 x22 x23 x24 x25 x26)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__fused_kernel_eq_skeleton]; unfold cc0__fused_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  iexists _; isplitr
  swap; · iexact H27
  ipureintro
  refine (View.read_writes_eq_canon _ _ _ (cover0_27 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨_ + 28, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 1600000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- THE FRAME: every run ends with the arguments unchanged and every counter at zero, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.KernelIdeal.Gen

end
-- ==== Proof.Frames.lean ====
/-
The claims about the frames: each program runs to its end, leaves its arguments as they were and its counters at zero.
The precondition isn't needed for them. And the claim that the two named constants stand for the kernel's literals.
-/
module

public import proofs.«01_k».proof.Defs
public import proofs.«01_k».proof.Proof.KernelFrame
public import proofs.«01_k».proof.Proof.KernelIdealFrame
public import proofs.«01_k».proof.Proof.Gen.ReferenceIdeal.Run
public import proofs.«01_k».proof.Proof.Gen.Pre_inputs_in_range
public import Idealize.ShloMosaic.Lib.Quiescent

@[expose] public section

noncomputable section

namespace Cert.Claims

open Idealize.ShloMosaic Idealize.SL.Sem

/-- The kernel ends with its arguments unchanged and its counters at zero. -/
theorem frame_kernel : Cert.quiescent_Kernel := fun m ρ _ => Cert.Kernel.Gen.frame m ρ

/-- So does the kernel over the extended reals, -/
theorem frame_ideal : Cert.quiescent_KernelIdeal := fun m ρ _ => Cert.KernelIdeal.Gen.frame m ρ

/-- also from arguments within the precondition. -/
theorem frame_ideal_within : Cert.quiescent_KernelIdeal_pre_inputs_in_range := fun m ρ _ => Cert.KernelIdeal.Gen.frame m ρ

/-- So does the reference over the extended reals, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- also from arguments within the precondition. -/
theorem frame_reference_within : Cert.quiescent_ReferenceIdeal_pre_inputs_in_range := fun m ρ _ => frame_reference m ρ trivial

/-- The two named constants stand for the literals they replace. -/
theorem preserves : Cert.preserves_Kernel_KernelIdeal :=
  ⟨IdealRules.named_const.statement Cert.KernelIdeal.κ "slope" .bf16 0x3E4D#16 ((13421773/67108864:ℝ):EReal) rfl,
    IdealRules.named_const.statement Cert.KernelIdeal.κ "mask" .f32 0xF149F2CA#32 ⊥ rfl⟩

end Cert.Claims

end
-- ==== Proof.KStage.lean ====
/-
The kernel's attention layer cut into steps: each step is one function of a block's arrays, written with the kernel's
own operations. Both of the kernel's layers are compositions of these steps.
-/
module

public import proofs.«01_k».proof.Proof.Gen.KernelIdeal.Skeleton
public import Idealize.ShloMosaic.Lib.Pointwise

@[expose] public section

set_option maxRecDepth 16384

noncomputable section

namespace Cert.KernelIdeal.Stage

open Idealize.ShloMosaic Cert.KernelIdeal Cert.KernelIdeal.Gen

/-- A 32-bit float array of extended reals. -/
local notation "A" s => FVec Ideal s FTy.f32

/-- The rows of a block, one per node of its 16 graphs, as graphs and nodes. -/
def rows (x : A S512x128) : A S16x32x128 := shapeCast S16x32x128 x shapeCasts_S512x128_S16x32x128

/-- A linear map of the encoded nodes. -/
def lin32 (x : A S512x32) (w : A S32x128) (b : A S1x128) : A S512x128 :=
  addf (matmul dot_S512x32_S32x128_S512x128_1_0_0_1_n_n none x w (constant S512x128 .f32 0x00000000#32))
    (broadcastTo S512x128 (shapeCast S1x128 b shapeCasts_S1x128_S1x128) broadcasts_S1x128_S512x128)

/-- A linear map of the second layer's input. -/
def lin128 (x : A S512x128) (w : A S128x128) (b : A S1x128) : A S512x128 :=
  addf (matmul dot_S512x128_S128x128_S512x128_1_0_0_1_n_n none x w (constant S512x128 .f32 0x00000000#32))
    (broadcastTo S512x128 (shapeCast S1x128 b shapeCasts_S1x128_S1x128) broadcasts_S1x128_S512x128)

/-- The sums at the edges, by graph, target, source and column. -/
def edge (xl xr : A S512x128) : FVec Ideal S16x32x32x128 .bf16 :=
  addf (broadcastTo S16x32x32x128 (shapeCast S16x32x1x128 (truncf .bf16 (rows xr) bitsLt_bf16_f32) shapeCasts_S16x32x128_S16x32x1x128)
      broadcasts_S16x32x1x128_S16x32x32x128)
    (broadcastTo S16x32x32x128 (shapeCast S16x1x32x128 (truncf .bf16 (rows xl) bitsLt_bf16_f32) shapeCasts_S16x32x128_S16x1x32x128)
      broadcasts_S16x1x32x128_S16x32x32x128)

/-- The logits, by graph, target, head and source. -/
def logits (e : FVec Ideal S16x32x32x128 .bf16) (att : A S128x4) : A S16x32x4x32 :=
  transpose S16x32x4x32 [0, 1, 3, 2] (shapeCast S16x32x32x4
    (matmul dot_S16384x128_S128x4_S16384x4_1_0_0_1_n_n none
      (shapeCast S16384x128 (maximumf e (mulf (broadcast S16x32x32x128 (Named.named κ "slope" 0x3E4D#16)) e)) shapeCasts_S16x32x32x128_S16384x128)
      (truncf .bf16 (shapeCast S128x4 att shapeCasts_S128x4_S128x4) bitsLt_bf16_f32) (constant S16384x4 .f32 0x00000000#32))
    shapeCasts_S16384x4_S16x32x32x4) transposes_S16x32x32x4_p0_1_3_2_S16x32x4x32

/-- The logits of the neighbours, and the named value of the mask elsewhere. -/
def masked (k : IVec S16x32x1x32 1) (l : A S16x32x4x32) : A S16x32x4x32 :=
  select (broadcastTo S16x32x4x32 (shapeCast S16x32x1x32 k shapeCasts_S16x32x1x32_S16x32x1x32) broadcasts_S16x32x1x32_S16x32x4x32)
    l (broadcast S16x32x4x32 (Named.named κ "mask" 0xF149F2CA#32))

/-- The greatest masked logit of each target and head. -/
def top (l : A S16x32x4x32) : A S16x32x4 :=
  multiReduction .maximumf [3] S16x32x4 l 0xFF800000#32 reduces_S16x32x4x32_S16x32x4 (.inl rfl) rfl

/-- The exponentials, from the masked logits and the greatest ones. -/
def expo (l : A S16x32x4x32) (m : A S16x32x4) : A S16x32x4x32 :=
  exp (subf l (broadcastTo S16x32x4x32 (maximumf (shapeCast S16x32x4x1 m shapeCasts_S16x32x4_S16x32x4x1)
    (broadcast S16x32x4x1 (Scalar.ofBits .f32 0x00000000#32))) broadcasts_S16x32x4x1_S16x32x4x32))

/-- The attention weights. -/
def alpha (ex : A S16x32x4x32) : A S16x32x4x32 :=
  divf ex (broadcastTo S16x32x4x32 (maximumf (shapeCast S16x32x4x1
      (multiReduction .add [3] S16x32x4 ex 0x00000000#32 reduces_S16x32x4x32_S16x32x4 (.inl rfl) rfl) shapeCasts_S16x32x4_S16x32x4x1)
    (broadcast S16x32x4x1 (Scalar.ofBits .f32 0x24E69595#32))) broadcasts_S16x32x4x1_S16x32x4x32)

/-- The weighted sums of the sources' values: for every head all columns, of which the head's own are kept. -/
def collect (hd : A S4x128) (a : A S16x32x4x32) (xl : A S16x32x128) : A S16x32x128 :=
  multiReduction .add [2] S16x32x128 (mulf (shapeCast S16x32x4x128
      (matmul dot_S16x128x32_S16x32x128_S16x128x128_2_1_1_2_0_0 none (shapeCast S16x128x32 a shapeCasts_S16x32x4x32_S16x128x32) xl
        (constant S16x128x128 .f32 0x00000000#32)) shapeCasts_S16x128x128_S16x32x4x128)
      (broadcastTo S16x32x4x128 (shapeCast S1x1x4x128 hd shapeCasts_S4x128_S1x1x4x128) broadcasts_S1x1x4x128_S16x32x4x128))
    0x00000000#32 reduces_S16x32x4x128_S16x32x128 (.inl rfl) rfl

/-- A bias and the positive part. -/
def finish (y : A S16x32x128) (b : A S1x128) : A S16x32x128 :=
  maximumf (addf y (broadcastTo S16x32x128 (shapeCast S1x1x128 b shapeCasts_S1x128_S1x1x128) broadcasts_S1x1x128_S16x32x128))
    (broadcast S16x32x128 (Scalar.ofBits .f32 0x00000000#32))

/-- The first layer's values of the sources. -/
theorem pay11_eq (x : A S512x32) (w : A S32x128) (b : A S1x128) : k0_pay11 (F := Ideal) x w b = rows (lin32 x w b) := rfl

/-- The first layer's masked logits. -/
theorem pay12_eq (x : A S512x32) (d2 : A S16x32x1x32) (i j : IVec S1x32x1x32 32) (r : A S16x32x1x32) (wl : A S32x128) (bl : A S1x128)
    (wr : A S32x128) (br : A S1x128) (att : A S128x4) :
    k0_pay12 (F := Ideal) x d2 i j r wl bl wr br att
      = masked (k0_pay9 (F := Ideal) d2 i j r) (logits (edge (lin32 x wl bl) (lin32 x wr br)) att) := rfl

/-- The first layer's greatest masked logits. -/
theorem pay13_eq (x : A S512x32) (d2 : A S16x32x1x32) (i j : IVec S1x32x1x32 32) (r : A S16x32x1x32) (wl : A S32x128) (bl : A S1x128)
    (wr : A S32x128) (br : A S1x128) (att : A S128x4) :
    k0_pay13 (F := Ideal) x d2 i j r wl bl wr br att = top (k0_pay12 (F := Ideal) x d2 i j r wl bl wr br att) := rfl

/-- The first layer's result. -/
theorem pay14_eq (hd : A S4x128) (b : A S1x128) (xl : A S16x32x128) (l : A S16x32x4x32) (m : A S16x32x4) :
    k0_pay14 (F := Ideal) hd b xl l m = finish (collect hd (alpha (expo l m)) xl) b := rfl

/-- The second layer's weighted sums. -/
theorem pay21_eq (hd : A S4x128) (k : IVec S16x32x1x32 1) (x : A S512x128) (wl : A S128x128) (bl : A S1x128)
    (wr : A S128x128) (br : A S1x128) (att : A S128x4) :
    k0_pay21 (F := Ideal) hd k x wl (k0_pay17 (F := Ideal) bl) wr (k0_pay18 (F := Ideal) br) (k0_pay19 (F := Ideal) att)
      = (let l := masked k (logits (edge (lin128 x wl bl) (lin128 x wr br)) att)
         collect hd (alpha (expo l (top l))) (rows (lin128 x wl bl))) := rfl

end Cert.KernelIdeal.Stage

end
-- ==== Proof.Consts.lean ====
/-
The float words of the programs as extended reals: the slope of the activation, the fill of the reference's masked
logits, the floor of the denominators, the bound of the precondition, and the start of a maximum.
-/
module

public import proofs.«01_k».proof.KernelIdeal
public import Idealize.ShloMosaic.PureOps.IdealRules
public import Idealize.ShloMosaic.Lib.Pointwise

@[expose] public section

noncomputable section

namespace Cert.Consts

open Idealize.ShloMosaic

/-- The slope of the activation below zero. -/
def slope : ℝ := 13421773 / 67108864

/-- The floor of the softmax's denominators. -/
def eps : ℝ := 15111573 / 151115727451828646838272

/-- The reference's fill of the masked logits. -/
def fill : ℝ := -1000000015047466219876688855040

/-- The word of the slope. -/
theorem slope_word : Ideal.ofBits .f32 1045220557#32 = (slope : EReal) := by
  unfold slope; simp [Ideal.ofBits, Ideal.ieee, -EReal.coe_mul]; norm_num

/-- The word of the floor. -/
theorem eps_word : Ideal.ofBits .f32 619091349#32 = (eps : EReal) := by
  unfold eps; simp [Ideal.ofBits, Ideal.ieee, -EReal.coe_mul]; norm_num

/-- The word of the fill. -/
theorem fill_word : Ideal.ofBits .f32 4048155338#32 = (fill : EReal) := by
  unfold fill; simp [Ideal.ofBits, Ideal.ieee, -EReal.coe_mul]; norm_num

/-- The word of the bound. -/
theorem bound_word : Ideal.ofBits .f32 3255828480#32 = ((-36 : ℝ) : EReal) := by
  simp [Ideal.ofBits, Ideal.ieee, -EReal.coe_mul]; norm_num

/-- The word of minus infinity. -/
theorem bot_word : Ideal.ofBits .f32 4286578688#32 = (⊥ : EReal) := by
  simp [Ideal.ofBits, Ideal.ieee]

/-- The kernel's named slope. -/
theorem named_slope : Named.named (F := Ideal) Cert.KernelIdeal.κ (φ := .bf16) "slope" 15949#16 = (slope : EReal) :=
  IdealRules.named_const.ideal_named_scalar _ _ _ _ rfl

/-- The kernel's named mask. -/
theorem named_mask : Named.named (F := Ideal) Cert.KernelIdeal.κ (φ := .f32) "mask" 4048155338#32 = (⊥ : EReal) :=
  IdealRules.named_const.ideal_named_scalar _ _ _ _ rfl

/-- The floor is positive. -/
theorem eps_pos : 0 < eps := by unfold eps; norm_num

/-- The floor is at most one. -/
theorem eps_le_one : eps ≤ 1 := by unfold eps; norm_num

/-- The floor is below the exponential of the bound. -/
theorem eps_le_exp : eps ≤ Real.exp (-36) := by
  have h : ((31 : ℝ) / 32) ^ 32 ≤ Real.exp (-1) := by
    have := pow_le_pow_left₀ (by norm_num) (show (31 : ℝ) / 32 ≤ Real.exp (-(1 / 32)) by
      have := Real.one_sub_le_exp_neg (1 / 32 : ℝ); norm_num at this ⊢; exact this) 32
    rwa [← Real.exp_nat_mul, show ((32 : ℕ) : ℝ) * -(1 / 32) = -1 by norm_num] at this
  have h1 : (362 : ℝ) / 1000 ≤ Real.exp (-1) := le_trans (by norm_num) h
  have h2 := pow_le_pow_left₀ (by norm_num) h1 36
  rw [← Real.exp_nat_mul, show ((36 : ℕ) : ℝ) * -1 = -36 by norm_num] at h2
  refine le_trans ?_ h2
  unfold eps; norm_num

/-- The fill is below the bound. -/
theorem fill_lt : fill < -36 := by unfold fill; norm_num

/-- The slope is at most one and not negative. -/
theorem slope_mem : 0 ≤ slope ∧ slope ≤ 1 := by unfold slope; constructor <;> norm_num

end Cert.Consts

end
-- ==== Proof.Softmax.lean ====
/-
The attention weights of one target and one head, as the reference and as the kernel compute them, on extended reals.
The reference fills the logits of the other nodes with a very small number, takes the greatest, and multiplies the
exponentials by the mask. The kernel fills with minus infinity and takes the greatest no smaller than zero. They agree
when there is no neighbour, and when the greatest logit of the neighbours is at least -36.
-/
module

public import proofs.«01_k».proof.Proof.Consts

@[expose] public section

noncomputable section

namespace Cert.Softmax

open Idealize.ShloMosaic Cert.Consts
open scoped Classical

variable {n : ℕ} (M : Fin n → Prop) (l : Fin n → EReal)

/-- The exponentials, from the logits and what is taken off them. -/
def refExp (m : EReal) (s : Fin n) : EReal :=
  Ideal.exp ((if M s then l s else (fill : EReal)) - m) * (if M s then 1 else 0)

/-- The weights from the exponentials. -/
def weigh (ex : Fin n → EReal) (s : Fin n) : EReal := Ideal.div (ex s) (max (∑ s, ex s) (eps : EReal))

/-- The greatest of finitely many values. -/
def greatest (f : Fin n → EReal) : EReal := Finset.univ.fold max ⊥ f

/-- The reference's weights. -/
def refWeight : Fin n → EReal := weigh (refExp M l (greatest fun s => if M s then l s else (fill : EReal)))

/-- The neighbours' logits, and minus infinity elsewhere. -/
def cut (s : Fin n) : EReal := if M s then l s else ⊥

/-- The kernel's weights. -/
def kerWeight : Fin n → EReal := weigh fun s => Ideal.exp (cut M l s - max (greatest (cut M l)) 0)

/-- Every value is at most the greatest. -/
theorem le_greatest (f : Fin n → EReal) (s : Fin n) : f s ≤ greatest f :=
  (Finset.le_fold_max _).mpr (.inr ⟨s, Finset.mem_univ _, le_rfl⟩)

/-- A bound of every value bounds the greatest. -/
theorem greatest_le {f : Fin n → EReal} {c : EReal} (h : ∀ s, f s ≤ c) : greatest f ≤ c :=
  (Finset.fold_max_le _).mpr ⟨bot_le, fun s _ => h s⟩

/-- The greatest is one of the values, unless it is minus infinity. -/
theorem greatest_mem {f : Fin n → EReal} (h : greatest f ≠ ⊥) : ∃ s, greatest f = f s := by
  rcases (Finset.le_fold_max (s := Finset.univ) (b := ⊥) (f := f) (greatest f)).mp le_rfl with h' | ⟨s, _, hs⟩
  · exact absurd (le_bot_iff.mp h') h
  · exact ⟨s, le_antisymm hs (le_greatest f s)⟩

/-- With a neighbour's logit at least -36, the fill does not change the greatest. -/
theorem greatest_fill (h : ((-36 : ℝ) : EReal) ≤ greatest (cut M l)) :
    greatest (fun s => if M s then l s else (fill : EReal)) = greatest (cut M l) := by
  refine le_antisymm (greatest_le fun s => ?_) (greatest_le fun s => ?_)
  · by_cases hs : M s
    · simpa [cut, hs] using le_greatest (cut M l) s
    · simp only [hs, if_false]
      exact le_trans (by exact_mod_cast fill_lt.le) h
  · by_cases hs : M s
    · simpa [cut, hs] using le_greatest (fun s => if M s then l s else (fill : EReal)) s
    · simp [cut, hs]

/-- A sum of reals is a real. -/
theorem coe_sum (f : Fin n → ℝ) : ((∑ s, f s : ℝ) : EReal) = ∑ s, (f s : EReal) := by
  induction (Finset.univ : Finset (Fin n)) using Finset.induction_on with
  | empty => simp
  | insert a t ha ih => rw [Finset.sum_insert ha, Finset.sum_insert ha, EReal.coe_add, ih]

/-- The weights do not change when the exponentials all take a factor, as long as both sums are above the floor. -/
theorem weigh_scale (p : Fin n → ℝ) (c : ℝ) (hc : 0 < c) (h : eps ≤ ∑ s, p s) (h' : eps ≤ (∑ s, p s) * c) :
    weigh (fun s => ((p s * c : ℝ) : EReal)) = weigh fun s => (p s : EReal) := by
  have hD : (∑ s, p s) ≠ 0 := ((eps_pos).trans_le h).ne'
  funext s
  have e1 : ∑ s, ((p s * c : ℝ) : EReal) = (((∑ s, p s) * c : ℝ) : EReal) := by
    rw [Finset.sum_mul, coe_sum]
  have e2 : ∑ s, (p s : EReal) = ((∑ s, p s : ℝ) : EReal) := (coe_sum _).symm
  unfold weigh
  rw [e1, e2, max_eq_left (by exact_mod_cast h'), max_eq_left (by exact_mod_cast h), Ideal.div_coe hD,
    Ideal.div_coe (mul_ne_zero hD hc.ne'), ← EReal.coe_mul, ← EReal.coe_mul]
  congr 1
  field_simp

/-- The kernel's weights are the reference's. -/
theorem kerWeight_eq (h : ∀ s, M s → ((-36 : ℝ) : EReal) ≤ greatest (cut M l)) : kerWeight M l = refWeight M l := by
  by_cases hM : ∃ s, M s
  · obtain ⟨s₁, hs₁⟩ := hM
    have h36 := h s₁ hs₁
    unfold kerWeight refWeight
    rw [greatest_fill M l h36]
    have hle : ∀ s, cut M l s ≤ greatest (cut M l) := le_greatest _
    have hmem := greatest_mem (f := cut M l) (fun e => by rw [e] at h36; simp at h36)
    generalize greatest (cut M l) = T at *
    induction T using EReal.rec with
    | bot => simp at h36
    | top =>
      congr 1
      funext s
      simp [refExp, sub_eq_add_neg]
    | coe t =>
      have ht : -36 ≤ t := by exact_mod_cast h36
      by_cases h0 : 0 ≤ t
      · congr 1
        funext s
        rw [max_eq_left (by exact_mod_cast h0)]
        by_cases hs : M s <;> simp [refExp, cut, hs, sub_eq_add_neg]
      · have h0' : t ≤ 0 := (not_le.mp h0).le
        rw [max_eq_right (by exact_mod_cast h0')]
        have hp : ∀ s, ∃ p : ℝ, 0 ≤ p ∧ Ideal.exp (cut M l s - 0) = (p : EReal)
            ∧ refExp M l t s = ((p * Real.exp (-t) : ℝ) : EReal) := by
          intro s
          have hl := hle s
          by_cases hs : M s
          · simp only [cut, hs, if_true, refExp] at hl ⊢
            generalize l s = x at hl
            induction x using EReal.rec with
            | bot => exact ⟨0, le_rfl, by simp, by simp⟩
            | top => exact absurd (top_le_iff.mp hl) (EReal.coe_ne_top _)
            | coe x =>
              refine ⟨Real.exp x, (Real.exp_pos _).le, by simp, ?_⟩
              rw [← EReal.coe_sub, Ideal.exp_coe, mul_one, ← Real.exp_add, sub_eq_add_neg]
          · exact ⟨0, le_rfl, by simp [cut, hs], by simp [refExp, hs]⟩
        choose p hp0 hp1 hp2 using hp
        have e1 : (fun s => Ideal.exp (cut M l s - 0)) = fun s => (p s : EReal) := funext hp1
        have e2 : refExp M l t = fun s => ((p s * Real.exp (-t) : ℝ) : EReal) := funext hp2
        obtain ⟨s₀, hs₀⟩ := hmem
        have hps : p s₀ = Real.exp t := by
          have := hp1 s₀
          rw [← hs₀, sub_zero, Ideal.exp_coe] at this
          exact_mod_cast this.symm
        have hD : Real.exp t ≤ ∑ s, p s := by
          rw [← hps]
          exact Finset.single_le_sum (fun s _ => hp0 s) (Finset.mem_univ s₀)
        rw [e1, e2, weigh_scale p _ (Real.exp_pos _) (eps_le_exp.trans ((Real.exp_le_exp.mpr ht).trans hD))]
        refine eps_le_one.trans ?_
        have := mul_le_mul_of_nonneg_right hD (Real.exp_pos (-t)).le
        rwa [← Real.exp_add, add_neg_cancel, Real.exp_zero] at this
  · push Not at hM
    have hc : cut M l = fun _ => ⊥ := by funext s; simp [cut, hM s]
    have hg : max (greatest (fun _ : Fin n => (⊥ : EReal))) 0 = 0 :=
      max_eq_right ((greatest_le fun _ => le_rfl).trans bot_le)
    unfold kerWeight refWeight
    congr 1
    funext s
    simp [hc, hg, refExp, hM s]

end Cert.Softmax

end
-- ==== Proof.Layer.lean ====
/-
One attention layer on one graph of 32 nodes, on extended reals: what the reference computes (`attend`), what the kernel
computes (`kerSum`), and that they agree. The kernel adds the edge's term to the targets' bias, so it needs the
term to be the same at every edge between neighbours; it contracts the logits and sums the values over all 128 columns,
of which an indicator keeps the head's own.
-/
module

public import proofs.«01_k».proof.Proof.Softmax
public import Idealize.ShloMosaic.Lib.Pointwise

@[expose] public section

noncomputable section

namespace Cert.Layer

open Idealize.ShloMosaic Cert.Consts Cert.Softmax
open scoped Classical

/-- Column `x` of head `h`. -/
def col (h : Fin 4) (x : Fin 32) : Fin 128 := ⟨h.val * 32 + x.val, by omega⟩

/-- The head of a column. -/
def head (c : Fin 128) : Fin 4 := ⟨c.val / 32, by omega⟩

/-- A column's place in its head. -/
def place (c : Fin 128) : Fin 32 := ⟨c.val % 32, by omega⟩

/-- A column is its place's column of its head. -/
theorem col_head_place (c : Fin 128) : col (head c) (place c) = c := Fin.ext (by simp only [col, head, place]; omega)

/-- The head of a head's column. -/
theorem head_col (h : Fin 4) (x : Fin 32) : head (col h x) = h := Fin.ext (by simp only [col, head]; omega)

/-- The place of a head's column. -/
theorem place_col (h : Fin 4) (x : Fin 32) : place (col h x) = x := Fin.ext (by simp only [col, place]; omega)

/-- A linear map of the nodes' rows. -/
def lin {K : ℕ} (x : Fin 32 → Fin K → EReal) (w : Fin K → Fin 128 → EReal) (b : Fin 128 → EReal) (n : Fin 32) (c : Fin 128) : EReal :=
  ∑ k, x n k * w k c + b c

/-- The activation: below zero the value is scaled. -/
def act (e : EReal) : EReal := if 0 ≤ e then e else (slope : EReal) * e

/-- The activation is the greater of the value and the scaled value. -/
theorem max_eq_act (e : EReal) : max e ((slope : EReal) * e) = act e := by
  have hs : 0 < Consts.slope := by unfold Consts.slope; norm_num
  unfold act
  induction e using EReal.rec with
  | bot => simp
  | top => simp
  | coe x =>
    have h1 : (0 : EReal) ≤ x ↔ 0 ≤ x := by exact_mod_cast Iff.rfl
    rw [← EReal.coe_mul]; simp only [h1]
    by_cases hx : 0 ≤ x
    · rw [if_pos hx, max_eq_left]
      exact_mod_cast mul_le_of_le_one_left hx slope_mem.2
    · rw [if_neg hx, max_eq_right]
      have := mul_le_mul_of_nonpos_right slope_mem.2 (not_le.mp hx).le
      rw [one_mul] at this
      exact_mod_cast this

/-- The logit of source `s` for target `d` at head `h`: values of the source and the target and the edge's term. -/
def logit (xl xr : Fin 32 → Fin 128 → EReal) (ef : Fin 32 → Fin 32 → Fin 128 → EReal) (att : Fin 4 → Fin 32 → EReal)
    (h : Fin 4) (d s : Fin 32) : EReal :=
  ∑ x, att h x * act (xl s (col h x) + xr d (col h x) + ef s d (col h x))

/-- The kernel's logit: the edge's term is part of the target's values, and the contraction is over all columns. -/
def kerLogit (xl xr : Fin 32 → Fin 128 → EReal) (att : Fin 128 → Fin 4 → EReal) (h : Fin 4) (d s : Fin 32) : EReal :=
  ∑ c, max (xr d c + xl s c) ((slope : EReal) * (xr d c + xl s c)) * att c h

/-- The layer's result at a node and a column. -/
def attend (M : Fin 32 → Fin 32 → Prop) (xl xr : Fin 32 → Fin 128 → EReal) (ef : Fin 32 → Fin 32 → Fin 128 → EReal)
    (att : Fin 4 → Fin 32 → EReal) (b : Fin 128 → EReal) (d : Fin 32) (c : Fin 128) : EReal :=
  max (∑ s, xl s c * refWeight (M · d) (logit xl xr ef att (head c) d) s + b c) 0

/-- The kernel's sums at a node and a column. -/
def kerSum (hd : Fin 4 → Fin 128 → EReal) (M : Fin 32 → Fin 32 → Prop) (xl xr : Fin 32 → Fin 128 → EReal)
    (att : Fin 128 → Fin 4 → EReal) (d : Fin 32) (c : Fin 128) : EReal :=
  ∑ h, (∑ s, kerWeight (M · d) (kerLogit xl xr att h d) s * xl s c) * hd h c

/-- A contraction over all columns of which an indicator keeps one head's. -/
theorem sum_cols (f : Fin 128 → EReal) (a : Fin 4 → Fin 32 → EReal) (h : Fin 4) :
    ∑ c, f c * (a (head c) (place c) * (if head c = h then 1 else 0)) = ∑ x, a h x * f (col h x) := by
  rw [Fin.sum_univ_tiles 4 32 rfl]
  refine (Finset.sum_eq_single h (fun j _ hj => Finset.sum_eq_zero fun x _ => ?_) fun hn => absurd (Finset.mem_univ _) hn).trans
    (Finset.sum_congr rfl fun x _ => ?_)
  · have : head (col j x) ≠ h := by rwa [head_col]
    change f (col j x) * (a (head (col j x)) (place (col j x)) * (if head (col j x) = h then 1 else 0)) = 0
    rw [if_neg this, mul_zero, mul_zero]
  · change f (col h x) * (a (head (col h x)) (place (col h x)) * (if head (col h x) = h then 1 else 0)) = _
    rw [head_col, place_col, if_pos rfl, mul_one, mul_comm]

/-- A sum over the heads of which an indicator keeps a column's own. -/
theorem sum_heads (f : Fin 4 → EReal) (c : Fin 128) : ∑ h, f h * (if head c = h then 1 else 0) = f (head c) := by
  simp

/-- The kernel's layer is the reference's. -/
theorem kerSum_eq {M : Fin 32 → Fin 32 → Prop} {xl xr xr' : Fin 32 → Fin 128 → EReal} {ef : Fin 32 → Fin 32 → Fin 128 → EReal}
    {att : Fin 4 → Fin 32 → EReal} {att' : Fin 128 → Fin 4 → EReal} {hd : Fin 4 → Fin 128 → EReal} {e₀ : Fin 128 → EReal}
    (b : Fin 128 → EReal)
    (hhd : ∀ h c, hd h c = if head c = h then 1 else 0)
    (hatt : ∀ c h, att' c h = att (head c) (place c) * (if head c = h then 1 else 0))
    (hxr : ∀ d c, xr' d c = xr d c + e₀ c)
    (hef : ∀ s d c, M s d → ef s d c = e₀ c)
    (hb : ∀ h s d, M s d → ((-36 : ℝ) : EReal) ≤ greatest (cut (M · d) (logit xl xr ef att h d)))
    (d : Fin 32) (c : Fin 128) :
    max (kerSum hd M xl xr' att' d c + b c) 0 = attend M xl xr ef att b d c := by
  have hl : ∀ h, cut (M · d) (kerLogit xl xr' att' h d) = cut (M · d) (logit xl xr ef att h d) := by
    intro h
    funext s
    by_cases hs : M s d
    · simp only [cut, hs, if_true]
      unfold kerLogit logit
      simp only [max_eq_act, hatt]
      rw [sum_cols]
      refine Finset.sum_congr rfl fun x _ => ?_
      rw [hxr, hef s d _ hs]
      congr 2
      ac_rfl
    · simp [cut, hs]
  have hw : ∀ h, kerWeight (M · d) (kerLogit xl xr' att' h d) = refWeight (M · d) (logit xl xr ef att h d) := by
    intro h
    rw [← kerWeight_eq _ _ fun s hs => hb h s d hs]
    unfold kerWeight
    rw [hl]
  unfold kerSum attend
  simp only [hhd, hw]
  rw [sum_heads]
  simp only [mul_comm]

/-- A linear map with a second bias. -/
theorem lin_add {K : ℕ} (x : Fin 32 → Fin K → EReal) (w : Fin K → Fin 128 → EReal) (b e : Fin 128 → EReal) (n : Fin 32) (c : Fin 128) :
    lin x w (fun c => b c + e c) n c = lin x w b n c + e c := by
  unfold lin; rw [add_assoc]

end Cert.Layer

end
-- ==== Proof.KRead.lean ====
/-
The steps of the kernel's attention layer read at an index: a block's layer at one of its graphs is the kernel's layer
of `Layer` on that graph.
-/
module

public import proofs.«01_k».proof.Proof.KStage
public import proofs.«01_k».proof.Proof.Layer

@[expose] public section

set_option maxRecDepth 16384

noncomputable section

namespace Cert.KernelIdeal.Stage

open Idealize.ShloMosaic Cert.KernelIdeal Cert.KernelIdeal.Gen Cert.Layer Cert.Softmax
open scoped Classical

/-- A 32-bit float array of extended reals. -/
local notation "A" s => FVec Ideal s FTy.f32

/-- The row of a node of a graph of the block. -/
def row (g : Fin 16) (n : Fin 32) : Fin 512 := ⟨g.val * 32 + n.val, by omega⟩

/-- The rows of one graph of the block. -/
def rowsOf {K : ℕ} (x : FVec Ideal ⟨2, ![512, K]⟩ .f32) (g : Fin 16) (n : Fin 32) (c : Fin K) : EReal := x (ix2 (row g n) c)

/-- Which nodes of a graph of the block are neighbours: the source first. -/
def nbr (k : IVec S16x32x1x32 1) (g : Fin 16) (s d : Fin 32) : Prop := k (ix4 g d 0 s) = 1#1

/-- A choice by a bit. -/
theorem select_eq {α : Type} (b : BitVec 1) (x y : α) : Scalar.select b x y = if b = 1#1 then x else y := by
  rcases BitVec.eq_zero_or_eq_one b with rfl | rfl <;> rfl

/-- A linear map of the encoded nodes, on one graph. -/
theorem lin32_eq (x : A S512x32) (w : A S32x128) (b : A S1x128) (g : Fin 16) :
    rowsOf (lin32 x w b) g = lin (rowsOf x g) (fun k c => w (ix2 k c)) (fun c => b (ix2 0 c)) := by
  funext n c
  unfold rowsOf lin
  pointwise [lin32]

/-- A linear map of the second layer's input, on one graph. -/
theorem lin128_eq (x : A S512x128) (w : A S128x128) (b : A S1x128) (g : Fin 16) :
    rowsOf (lin128 x w b) g = lin (rowsOf x g) (fun k c => w (ix2 k c)) (fun c => b (ix2 0 c)) := by
  funext n c
  unfold rowsOf lin
  pointwise [lin128]

/-- The masked logits. -/
theorem masked_eq (k : IVec S16x32x1x32 1) (xl xr : A S512x128) (att : A S128x4) (g : Fin 16) (d s : Fin 32) (h : Fin 4) :
    masked k (logits (edge xl xr) att) (ix4 g d h s)
      = cut (nbr k g · d) (kerLogit (rowsOf xl g) (rowsOf xr g) (fun c h => att (ix2 c h)) h d) s := by
  have e : logits (edge xl xr) att (ix4 g d h s) = kerLogit (rowsOf xl g) (rowsOf xr g) (fun c h => att (ix2 c h)) h d s := by
    unfold kerLogit rowsOf row
    pointwise [logits, edge, rows, Consts.named_slope]
  unfold cut nbr
  rw [← e]
  pointwise [masked, Consts.named_mask, select_eq]
  congr

/-- The weights. -/
theorem alpha_eq (l : A S16x32x4x32) (g : Fin 16) (d s : Fin 32) (h : Fin 4) :
    alpha (expo l (top l)) (ix4 g d h s)
      = weigh (fun s => Ideal.exp (l (ix4 g d h s) - max (greatest fun s => l (ix4 g d h s)) 0)) s := by
  unfold weigh greatest
  pointwise [alpha, expo, top, Consts.eps_word, Consts.bot_word]

/-- The layer's sums on one graph. -/
theorem sums_eq (hd : A S4x128) (k : IVec S16x32x1x32 1) (xl xr : A S512x128) (att : A S128x4) (g : Fin 16) (d : Fin 32) (c : Fin 128) :
    (let l := masked k (logits (edge xl xr) att)
     collect hd (alpha (expo l (top l))) (rows xl)) (ix3 g d c)
      = kerSum (fun h c => hd (ix2 h c)) (nbr k g) (rowsOf xl g) (rowsOf xr g) (fun c h => att (ix2 c h)) d c := by
  have e : ∀ h, (fun s => masked k (logits (edge xl xr) att) (ix4 g d h s))
      = cut (nbr k g · d) (kerLogit (rowsOf xl g) (rowsOf xr g) (fun c h => att (ix2 c h)) h d) :=
    fun h => funext fun s => masked_eq k xl xr att g d s h
  unfold kerSum kerWeight
  simp only [← e]
  generalize masked k (logits (edge xl xr) att) = l
  simp only [← alpha_eq]
  unfold rowsOf row
  pointwise [collect, rows]

/-- The bias and the positive part. -/
theorem finish_eq (y : A S16x32x128) (b : A S1x128) (g : Fin 16) (d : Fin 32) (c : Fin 128) :
    finish y b (ix3 g d c) = max (y (ix3 g d c) + b (ix2 0 c)) 0 := by
  pointwise [finish]

end Cert.KernelIdeal.Stage

end
-- ==== Proof.Block.lean ====
/-
What one block computes: the composition of the kernel's steps on a block's operands, and what its small pieces hold.
-/
module

public import proofs.«01_k».proof.Proof.KRead

@[expose] public section

set_option maxRecDepth 16384

noncomputable section

namespace Cert.KernelIdeal.Stage

open Idealize.ShloMosaic Cert.KernelIdeal Cert.KernelIdeal.Gen Cert.Layer
open scoped Classical

/-- A 32-bit float array of extended reals. -/
local notation "A" s => FVec Ideal s FTy.f32

/-- The operands of a block. -/
structure Operands where
  feats : A S16x32x32
  pxd : A S16x32x1x1
  pxs : A S16x1x1x32
  pyd : A S16x32x1x1
  pys : A S16x1x1x32
  dm : A S16x32x1
  ctrl : IVec S16x1 32
  ew1 : A S32x32
  eb1 : A S1x32
  ew2 : A S32x32
  eb2 : A S1x32
  wl1 : A S32x128
  bl1 : A S1x128
  wr1 : A S32x128
  br1 : A S1x128
  att1 : A S128x4
  bias1 : A S1x128
  wl2 : A S128x128
  bl2 : A S1x128
  wr2 : A S128x128
  br2 : A S1x128
  att2 : A S128x4
  bias2 : A S1x128
  f1 : A S32x5
  f2 : A S128x5
  f3 : A S128x5
  fb : A S1x5

/-- Each node's row times the node's own factor. -/
def scaled (y : A S16x32x128) (dm : A S16x32x1) : A S512x128 :=
  shapeCast S512x128 (mulf y (broadcastTo S16x32x128 (shapeCast S16x32x1 dm shapeCasts_S16x32x1_S16x32x1) broadcasts_S16x32x1_S16x32x128))
    shapeCasts_S16x32x128_S512x128

/-- The rows that a one-hot array selects. -/
def chosen (oh : A S16x32) (y : A S16x32x128) : A S16x128 :=
  matmul dot_S16x32_S16x32x128_S16x128_1_1_n_2_0_0 none oh y (constant S16x128 .f32 0x00000000#32)

/-- The attention sums, from the two linear maps. -/
def sums (k : IVec S16x32x1x32 1) (xl xr : A S512x128) (att : A S128x4) : A S16x32x128 :=
  let l := masked k (logits (edge xl xr) att)
  collect (k0_pay2 (F := Ideal)) (alpha (expo l (top l))) (rows xl)

namespace Operands

variable (o : Operands)

/-- The encoded nodes. -/
def enc : A S512x32 := k0_pay4 (F := Ideal) (k0_pay3 (F := Ideal) o.feats o.ew1 o.eb1) o.ew2 o.eb2

/-- The controlled nodes, one-hot. -/
def oh : A S16x32 := k0_pay5 (F := Ideal) o.ctrl

/-- Which nodes are neighbours. -/
def near : IVec S16x32x1x32 1 :=
  k0_pay9 (F := Ideal) (k0_pay7 (F := Ideal) o.pxd o.pxs o.pyd o.pys) (iota .tc S1x32x1x32 32 [1] iota_S1x32x1x32_d1_w32)
    (iota .tc S1x32x1x32 32 [3] iota_S1x32x1x32_d3_w32) (k0_pay8 (F := Ideal))

/-- The first layer's values of the sources. -/
def xl1 : A S512x128 := lin32 o.enc o.wl1 o.bl1

/-- The first layer's values of the targets. -/
def xr1 : A S512x128 := lin32 o.enc o.wr1 o.br1

/-- The first layer's result. -/
def y1 : A S16x32x128 := finish (sums o.near o.xl1 o.xr1 o.att1) o.bias1

/-- The second layer's input. -/
def mid : A S512x128 := scaled o.y1 o.dm

/-- The second layer's values of the sources. -/
def xl2 : A S512x128 := lin128 o.mid o.wl2 o.bl2

/-- The second layer's values of the targets. -/
def xr2 : A S512x128 := lin128 o.mid o.wr2 o.br2

/-- The block's result. -/
def out : A S16x5 :=
  k0_pay1 (F := Ideal) o.oh (k0_pay6 (F := Ideal) (k0_pay3 (F := Ideal) o.feats o.ew1 o.eb1) o.ew2 o.eb2 o.ctrl) (chosen o.oh o.y1)
    o.bias2 (sums o.near o.xl2 o.xr2 o.att2) o.f1 o.f2 o.f3 o.fb

end Operands

/-- The graph of a row. -/
def graphOf (r : Fin 512) : Fin 16 := ⟨r.val / 32, by omega⟩

/-- The node of a row. -/
def nodeOf (r : Fin 512) : Fin 32 := ⟨r.val % 32, by omega⟩

theorem graphOf_row (g : Fin 16) (n : Fin 32) : graphOf (row g n) = g := Fin.ext (by simp only [graphOf, row]; omega)
theorem nodeOf_row (g : Fin 16) (n : Fin 32) : nodeOf (row g n) = n := Fin.ext (by simp only [nodeOf, row]; omega)

/-- The encoder's first layer. -/
theorem pay3_eq (x : A S16x32x32) (w : A S32x32) (b : A S1x32) (r : Fin 512) (c : Fin 32) :
    k0_pay3 (F := Ideal) x w b (ix2 r c) = max (∑ k, x (ix3 (graphOf r) (nodeOf r) k) * w (ix2 k c) + b (ix2 0 c)) 0 := by
  unfold graphOf nodeOf
  pointwise [k0_pay3]

/-- The encoder's second layer. -/
theorem pay4_eq (x : A S512x32) (w : A S32x32) (b : A S1x32) (r : Fin 512) (c : Fin 32) :
    k0_pay4 (F := Ideal) x w b (ix2 r c) = max (∑ k, x (ix2 r k) * w (ix2 k c) + b (ix2 0 c)) 0 := by
  pointwise [k0_pay4]

/-- The scaled rows. -/
theorem scaled_eq (y : A S16x32x128) (dm : A S16x32x1) (r : Fin 512) (c : Fin 128) :
    scaled y dm (ix2 r c) = y (ix3 (graphOf r) (nodeOf r) c) * dm (ix3 (graphOf r) (nodeOf r) 0) := by
  unfold graphOf nodeOf
  pointwise [scaled]

/-- A column's number divided by 32, in whole numbers: the quotient that rounds towards zero, less one where the signs
    differ and a remainder is left. -/
def byHead (c : Fin 128) : BitVec 32 :=
  Scalar.select
    (IntOp.andi
      (IntOp.cmpi .ne
        (IntOp.subi (BitVec.setWidth 32 (IntOp.cmpi .sgt (BitVec.ofNat 32 c.val) 0#32))
          (BitVec.setWidth 32 (IntOp.cmpi .slt (BitVec.ofNat 32 c.val) 0#32)))
        (Scalar.subi (Scalar.extui (Scalar.cmpi .sgt 32#32 0#32)) (Scalar.extui (Scalar.cmpi .slt 32#32 0#32))))
      (IntOp.cmpi .ne (IntOp.remsi .vector (BitVec.ofNat 32 c.val) 32#32) 0#32))
    (IntOp.subi (IntOp.divsi .vector (BitVec.ofNat 32 c.val) 32#32) 1#32)
    (IntOp.divsi .vector (BitVec.ofNat 32 c.val) 32#32)

/-- It's the column's head. -/
theorem byHead_eq : ∀ (h : Fin 4) (c : Fin 128),
    IntOp.cmpi .eq (byHead c) (BitVec.ofNat 32 h.val) = if head c = h then 1#1 else 0#1 := by
  decide +kernel

/-- The integer of a bit, as a number. -/
theorem bit_number (p : Prop) [Decidable p] :
    FloatOps.sitofp (F := Ideal) FTy.f32 (BitVec.setWidth 32 (if p then 1#1 else 0#1)) = if p then (1 : EReal) else 0 := by
  split
  · show (((BitVec.setWidth 32 1#1).toInt : ℝ) : EReal) = 1
    simp
  · show (((BitVec.setWidth 32 0#1).toInt : ℝ) : EReal) = 0
    simp

/-- The array of the heads' columns holds one in a head's own columns, zero elsewhere. -/
theorem heads_eq (h : Fin 4) (c : Fin 128) : k0_pay2 (F := Ideal) (ix2 h c) = if head c = h then (1 : EReal) else 0 := by
  have e : k0_pay2 (F := Ideal) (ix2 h c)
      = FloatOps.sitofp (F := Ideal) FTy.f32 (BitVec.setWidth 32 (IntOp.cmpi .eq (byHead c) (BitVec.ofNat 32 h.val))) := by
    unfold byHead
    pointwise [k0_pay2]
  rw [e, byHead_eq, bit_number]

/-- Every node's row but the chosen one counts for nothing. -/
theorem sum_chosen (k : BitVec 32) (h₀ : (0 : ℤ) ≤ k.toInt) (h₁ : k.toInt < 32) (f : Fin 32 → EReal) :
    ∑ s : Fin 32, FloatOps.sitofp (F := Ideal) FTy.f32 (BitVec.setWidth 32 (IntOp.cmpi .eq k (BitVec.ofNat 32 s.val))) * f s
      = f ⟨min k.toInt.toNat 31, by omega⟩ := by
  have e : ∀ s : Fin 32, IntOp.cmpi .eq k (BitVec.ofNat 32 s.val) = if s = ⟨min k.toInt.toNat 31, by omega⟩ then 1#1 else 0#1 := by
    intro s
    have hk : k = BitVec.ofNat 32 k.toInt.toNat := by
      apply BitVec.eq_of_toInt_eq
      rw [BitVec.toInt_ofNat', Int.toNat_of_nonneg h₀]
      rw [Int.bmod_def]; omega
    show BitVec.ofBool (k == BitVec.ofNat 32 s.val) = _
    have hs : k = BitVec.ofNat 32 s.val ↔ s = ⟨min k.toInt.toNat 31, by omega⟩ := by
      constructor
      · intro h
        refine Fin.ext ?_
        show s.val = min k.toInt.toNat 31
        have : k.toInt = s.val := by
          rw [h, BitVec.toInt_ofNat', Int.bmod_def]; omega
        omega
      · intro h
        rw [h]
        show k = BitVec.ofNat 32 (min k.toInt.toNat 31)
        rw [show min k.toInt.toNat 31 = k.toInt.toNat by omega]
        exact hk
    by_cases h : s = ⟨min k.toInt.toNat 31, by omega⟩
    · rw [if_pos h, beq_iff_eq.mpr (hs.mpr h)]; rfl
    · rw [if_neg h, beq_eq_false_iff_ne.mpr (fun hh => h (hs.mp hh))]; rfl
  simp only [e, bit_number]
  simp

/-- A chosen row. -/
theorem chosen_eq (oh : IVec S16x1 32) (y : A S16x32x128) (g : Fin 16) (c : Fin 128)
    (h₀ : (0 : ℤ) ≤ (oh (ix2 g 0)).toInt) (h₁ : (oh (ix2 g 0)).toInt < 32) :
    chosen (k0_pay5 (F := Ideal) oh) y (ix2 g c) = y (ix3 g ⟨min (oh (ix2 g 0)).toInt.toNat 31, by omega⟩ c) := by
  rw [← sum_chosen _ h₀ h₁ fun s => y (ix3 g s c)]
  pointwise [chosen, k0_pay5]

/-- A chosen row of the encoded nodes. -/
theorem pay6_eq (x : A S512x32) (w : A S32x32) (b : A S1x32) (oh : IVec S16x1 32) (g : Fin 16) (c : Fin 32)
    (h₀ : (0 : ℤ) ≤ (oh (ix2 g 0)).toInt) (h₁ : (oh (ix2 g 0)).toInt < 32) :
    k0_pay6 (F := Ideal) x w b oh (ix2 g c)
      = k0_pay4 (F := Ideal) x w b (ix2 (row g ⟨min (oh (ix2 g 0)).toInt.toNat 31, by omega⟩) c) := by
  refine (?_ : _ = ∑ s : Fin 32, FloatOps.sitofp (F := Ideal) FTy.f32 (BitVec.setWidth 32 (IntOp.cmpi .eq (oh (ix2 g 0)) (BitVec.ofNat 32 s.val)))
    * k0_pay4 (F := Ideal) x w b (ix2 (row g s) c)).trans (sum_chosen _ h₀ h₁ fun s => k0_pay4 (F := Ideal) x w b (ix2 (row g s) c))
  unfold k0_pay6
  generalize k0_pay4 (F := Ideal) x w b = y
  unfold row
  pointwise [k0_pay5]

/-- The last dense layer. -/
theorem pay1_eq (oh : IVec S16x1 32) (x1 : A S16x32) (x2 : A S16x128) (b : A S1x128) (y : A S16x32x128) (f1 : A S32x5) (f2 f3 : A S128x5) (fb : A S1x5)
    (g : Fin 16) (k : Fin 5) :
    k0_pay1 (F := Ideal) (k0_pay5 (F := Ideal) oh) x1 x2 b y f1 f2 f3 fb (ix2 g k)
      = ∑ x, x1 (ix2 g x) * f1 (ix2 x k) + ∑ x, x2 (ix2 g x) * f2 (ix2 x k)
        + ∑ x, chosen (k0_pay5 (F := Ideal) oh) (finish y b) (ix2 g x) * f3 (ix2 x k) + fb (ix2 0 k) := by
  generalize k0_pay5 (F := Ideal) oh = oh'
  pointwise [k0_pay1, chosen, finish]

end Cert.KernelIdeal.Stage

end
-- ==== Proof.Stage.lean ====
/-
The reference's forward pass cut into steps: each step is one function of whole arrays, written with the reference
program's own operations. The reference's result and the precondition are both compositions of these steps.
-/
module

public import proofs.«01_k».proof.Proof.Gen.ReferenceIdeal
public import Idealize.ShloMosaic.Lib.StableHlo
public import Idealize.ShloMosaic.Lib.Pointwise

@[expose] public section

set_option maxRecDepth 16384

noncomputable section

namespace Cert.ReferenceIdeal.Stage

open Idealize.ShloMosaic Cert.ReferenceIdeal Cert.ReferenceIdeal.Gen

/-- A 32-bit float array of extended reals. -/
local notation "A" s => FVec Ideal s FTy.f32

/-- The nodes' rows: 35 numbers for each of the 32 nodes of each of the 128 graphs. -/
def nodes (obs : A S128x2145) : A S128x32x35 :=
  shapeCast S128x32x35 (extractStridedSlice S128x1120 ![0, 0] obs slices_S128x2145_S128x1120_0_0) shapeCasts_S128x1120_S128x32x35

/-- The edges' classes, as integers that are at least zero. -/
def cls (obs : A S128x2145) : IVec S128x32x32 32 :=
  maxsi (broadcastInDim S128x32x32 ![] bcast_S_S128x32x32 (id (constantI S_ 32 0#32)))
    (fptosi 32 (shapeCast S128x32x32 (extractStridedSlice S128x1024 ![0, 1120] obs slices_S128x2145_S128x1024_0_1120) shapeCasts_S128x1024_S128x32x32))

/-- The edges' classes, one-hot over three classes. -/
def oneHot (obs : A S128x2145) : A S128x32x32x3 :=
  uitofp .f32 (cmpi .eq
    (broadcastInDim S128x32x32x3 ![0, 1, 2, 3] bcast_S128x32x32x1_S128x32x32x3_0_1_2_3
      (broadcastInDim S128x32x32x1 ![0, 1, 2] bcast_S128x32x32_S128x32x32x1_0_1_2 (cls obs)))
    (broadcastInDim S128x32x32x3 ![0, 1, 2, 3] bcast_S1x1x1x3_S128x32x32x3_0_1_2_3 (iotaInDim S1x1x1x3 32 3)))

/-- The controlled node of each graph. -/
def ctrl (obs : A S128x2145) : IVec S128 32 :=
  fptosi 32 (shapeCast S128 (extractStridedSlice S128x1 ![0, 2144] obs slices_S128x2145_S128x1_0_2144) shapeCasts_S128x1_S128)

/-- The nodes' positions. -/
def pos (obs : A S128x2145) : A S128x32x2 :=
  extractStridedSlice S128x32x2 ![0, 0, 0] (nodes obs) slices_S128x32x35_S128x32x2_0_0_0

/-- The differences of the positions of every two nodes. -/
def diff (obs : A S128x2145) : A S128x32x32x2 :=
  subf (broadcastInDim S128x32x32x2 ![0, 1, 2, 3] bcast_S128x32x1x2_S128x32x32x2_0_1_2_3
      (broadcastInDim S128x32x1x2 ![0, 1, 3] bcast_S128x32x2_S128x32x1x2_0_1_3 (pos obs)))
    (broadcastInDim S128x32x32x2 ![0, 1, 2, 3] bcast_S128x1x32x2_S128x32x32x2_0_1_2_3
      (broadcastInDim S128x1x32x2 ![0, 2, 3] bcast_S128x32x2_S128x1x32x2_0_2_3 (pos obs)))

/-- Which pairs of nodes are neighbours. -/
def mask (obs : A S128x2145) : IVec S128x32x32 1 :=
  andi (cmpf .ole (Host.reduceAdd (mulf (diff obs) (diff obs)) (constant S_ .f32 0x00000000#32) reducesTo_S128x32x32x2_S128x32x32_d3 h_S_)
      (broadcastInDim S128x32x32 ![] bcast_S_S128x32x32 (constant S_ .f32 0x3E800000#32)))
    (broadcastInDim S128x32x32 ![0, 1, 2] bcast_S1x32x32_S128x32x32_0_1_2 (broadcastInDim S1x32x32 ![1, 2] bcast_S32x32_S1x32x32_1_2
      (noti (cmpi .eq (addi (iotaInDim S32x32 32 0) (broadcastInDim S32x32 ![] bcast_S_S32x32 (constantI S_ 32 0#32))) (iotaInDim S32x32 32 1)))))

/-- A dense layer of the encoder: a product with 32 columns, a bias, and the positive part. -/
def dense (x : A S128x32x32) (w : A S32x32) (b : A S32) : A S128x32x32 :=
  maximumf (addf (Host.dotGeneral dot_S128x32x32_S32x32_S128x32x32_2_0_01_1_n_n none x w)
      (broadcastInDim S128x32x32 ![0, 1, 2] bcast_S1x1x32_S128x32x32_0_1_2 (broadcastInDim S1x1x32 ![2] bcast_S32_S1x1x32_2 b)))
    (broadcastInDim S128x32x32 ![] bcast_S_S128x32x32 (constant S_ .f32 0x00000000#32))

/-- The encoder's input features. -/
def feats (obs : A S128x2145) : A S128x32x32 :=
  extractStridedSlice S128x32x32 ![0, 0, 2] (nodes obs) slices_S128x32x35_S128x32x32_0_0_2

/-- The bias of 128 columns, at every node. -/
def bias128 (b : A S128) : A S128x32x128 :=
  broadcastInDim S128x32x128 ![0, 1, 2] bcast_S1x1x128_S128x32x128_0_1_2 (broadcastInDim S1x1x128 ![2] bcast_S128_S1x1x128_2 b)

/-- The first attention layer's linear maps, split into heads. -/
def lin32 (x : A S128x32x32) (w : A S32x128) (b : A S128) : A S128x32x4x32 :=
  shapeCast S128x32x4x32 (addf (Host.dotGeneral dot_S128x32x32_S32x128_S128x32x128_2_0_01_1_n_n none x w) (bias128 b))
    shapeCasts_S128x32x128_S128x32x4x32

/-- The second attention layer's linear maps, split into heads. -/
def lin128 (x : A S128x32x128) (w : A S128x128) (b : A S128) : A S128x32x4x32 :=
  shapeCast S128x32x4x32 (addf (Host.dotGeneral dot_S128x32x128_S128x128_S128x32x128_2_0_01_1_n_n none x w) (bias128 b))
    shapeCasts_S128x32x128_S128x32x4x32

/-- What an attention layer adds up at the edge from one node to another, before its activation. -/
def edge (xl xr : A S128x32x4x32) (oh : A S128x32x32x3) (we : A S3x128) : A S128x32x32x4x32 :=
  addf (addf (broadcastInDim S128x32x32x4x32 ![0, 1, 2, 3, 4] bcast_S128x32x1x4x32_S128x32x32x4x32_0_1_2_3_4
        (broadcastInDim S128x32x1x4x32 ![0, 1, 3, 4] bcast_S128x32x4x32_S128x32x1x4x32_0_1_3_4 xl))
      (broadcastInDim S128x32x32x4x32 ![0, 1, 2, 3, 4] bcast_S128x1x32x4x32_S128x32x32x4x32_0_1_2_3_4
        (broadcastInDim S128x1x32x4x32 ![0, 2, 3, 4] bcast_S128x32x4x32_S128x1x32x4x32_0_2_3_4 xr)))
    (shapeCast S128x32x32x4x32 (Host.dotGeneral dot_S128x32x32x3_S3x128_S128x32x32x128_3_0_012_1_n_n none oh we)
      shapeCasts_S128x32x32x128_S128x32x32x4x32)

/-- The attention logits: the activated edges against the attention vectors. -/
def logits (att : A S4x32) (e : A S128x32x32x4x32) : A S128x32x32x4 :=
  transpose S128x32x32x4 [1, 2, 3, 0] (Host.dotGeneral dot_S4x32_S128x32x32x4x32_S4x128x32x32_1_4_n_012_0_3 none att
    (select (cmpf .oge e (broadcastInDim S128x32x32x4x32 ![] bcast_S_S128x32x32x4x32 (constant S_ .f32 0x00000000#32))) e
      (mulf (broadcastInDim S128x32x32x4x32 ![] bcast_S_S128x32x32x4x32 (constant S_ .f32 0x3E4CCCCD#32)) e)))
    transposes_S4x128x32x32_S128x32x32x4_1_2_3_0

/-- The mask, for each head. -/
def maskH (k : IVec S128x32x32 1) : IVec S128x32x32x1 1 :=
  broadcastInDim S128x32x32x1 ![0, 1, 2] bcast_S128x32x32_S128x32x32x1_0_1_2 k

/-- An array with zero rank at every edge and head. -/
def fill (w : BitVec 32) : A S128x32x32x4 :=
  broadcastInDim S128x32x32x4 ![] bcast_S_S128x32x32x4 (id (constant S_ .f32 w))

/-- The logits of the neighbours, and a given word elsewhere. -/
def masked (k : IVec S128x32x32 1) (l : A S128x32x32x4) (w : BitVec 32) : A S128x32x32x4 :=
  select (broadcastInDim S128x32x32x4 ![0, 1, 2, 3] bcast_S128x32x32x1_S128x32x32x4_0_1_2_3 (maskH k)) l (fill w)

/-- The greatest over the sources, kept as an axis of one. -/
def top (l : A S128x32x32x4) : A S128x1x32x4 :=
  broadcastInDim S128x1x32x4 ![0, 2, 3] bcast_S128x32x4_S128x1x32x4_0_2_3
    (Host.reduce FloatOps.maximumf l (constant S_ .f32 0xFF800000#32) reducesTo_S128x32x32x4_S128x32x4_d1 h_S_)

/-- One value for every source. -/
def spread (m : A S128x1x32x4) : A S128x32x32x4 :=
  broadcastInDim S128x32x32x4 ![0, 1, 2, 3] bcast_S128x1x32x4_S128x32x32x4_0_1_2_3 m

/-- The neighbours' exponentials, zero elsewhere. -/
def expo (k : IVec S128x32x32 1) (l : A S128x32x32x4) : A S128x32x32x4 :=
  mulf (Host.exp (subf l (spread (top l))))
    (broadcastInDim S128x32x32x4 ![0, 1, 2, 3] bcast_S128x32x32x1_S128x32x32x4_0_1_2_3 (uitofp .f32 (maskH k)))

/-- The attention weights. -/
def alpha (ex : A S128x32x32x4) : A S128x32x32x4 :=
  Host.divf ex (spread (maximumf (broadcastInDim S128x1x32x4 ![0, 2, 3] bcast_S128x32x4_S128x1x32x4_0_2_3
      (Host.reduceAdd ex (constant S_ .f32 0x00000000#32) reducesTo_S128x32x32x4_S128x32x4_d1 h_S_))
    (broadcastInDim S128x1x32x4 ![] bcast_S_S128x1x32x4 (constant S_ .f32 0x24E69595#32))))

/-- The weighted sum of the sources' values, a bias, and the positive part. -/
def collect (xl : A S128x32x4x32) (a : A S128x32x32x4) (b : A S128) : A S128x32x128 :=
  maximumf (addf (shapeCast S128x32x128 (transpose S128x32x4x32 [0, 3, 1, 2]
      (Host.dotGeneral dot_S128x32x4x32_S128x32x32x4_S128x4x32x32_1_1_3_2_02_03 none xl a) transposes_S128x4x32x32_S128x32x4x32_0_3_1_2)
      shapeCasts_S128x32x4x32_S128x32x128) (bias128 b))
    (broadcastInDim S128x32x128 ![] bcast_S_S128x32x128 (constant S_ .f32 0x00000000#32))

/-- An attention layer, from its logits. -/
def layer (k : IVec S128x32x32 1) (l : A S128x32x32x4) (xl : A S128x32x4x32) (b : A S128) : A S128x32x128 :=
  collect xl (alpha (expo k (masked k l 0xF149F2CA#32))) b

/-- The first layer's result times each node's own factor. -/
def scaled (obs : A S128x2145) (y : A S128x32x128) : A S128x32x128 :=
  mulf y (broadcastInDim S128x32x128 ![0, 1, 2] bcast_S128x32x1_S128x32x128_0_1_2
    (extractStridedSlice S128x32x1 ![0, 0, 34] (nodes obs) slices_S128x32x35_S128x32x1_0_0_34))

/-- Where the gathers read: the graph and its controlled node, a negative one counted from the end. -/
def where_ (obs : A S128x2145) : IVec S128x2 32 :=
  concatenate S128x2 1
    [⟨S128x1, broadcastInDim S128x1 ![0] bcast_S128_S128x1_0
        (select (cmpi .slt (iotaInDim S128 32 0) (broadcastInDim S128 ![] bcast_S_S128 (constantI S_ 32 0#32)))
          (addi (iotaInDim S128 32 0) (broadcastInDim S128 ![] bcast_S_S128 (constantI S_ 32 128#32))) (iotaInDim S128 32 0))⟩,
     ⟨S128x1, broadcastInDim S128x1 ![0] bcast_S128_S128x1_0
        (select (cmpi .slt (ctrl obs) (broadcastInDim S128 ![] bcast_S_S128 (constantI S_ 32 0#32)))
          (addi (ctrl obs) (broadcastInDim S128 ![] bcast_S_S128 (constantI S_ 32 32#32))) (ctrl obs))⟩]
    concatenates_S128x1_S128x1_S128x2_d1

/-- The controlled nodes' rows of 32. -/
def pick32 (x : A S128x32x32) (obs : A S128x2145) : A S128x32 :=
  Host.gather gather_S128x32x32_S128x2_S128x32_1_01_n_n_01_1_1132 x (where_ obs)

/-- The controlled nodes' rows of 128. -/
def pick128 (x : A S128x32x128) (obs : A S128x2145) : A S128x128 :=
  Host.gather gather_S128x32x128_S128x2_S128x128_1_01_n_n_01_1_11128 x (where_ obs)

/-- The last dense layer, on the three rows of each controlled node side by side. -/
def final (x1 : A S128x32) (x2 x3 : A S128x128) (w : A S288x5) (b : A S5) : A S128x5 :=
  addf (Host.dotGeneral dot_S128x288_S288x5_S128x5_1_0_0_1_n_n none
      (concatenate S128x288 1 [⟨S128x32, x1⟩, ⟨S128x128, x2⟩, ⟨S128x128, x3⟩] concatenates_S128x32_S128x128_S128x128_S128x288_d1) w)
    (broadcastInDim S128x5 ![0, 1] bcast_S1x5_S128x5_0_1 (broadcastInDim S1x5 ![1] bcast_S5_S1x5_1 b))

end Cert.ReferenceIdeal.Stage

end
-- ==== Proof.RRead.lean ====
/-
The steps of the reference's attention layer read at an index: the layer at one graph is `Layer.attend` on that graph.
-/
module

public import proofs.«01_k».proof.Proof.Stage
public import proofs.«01_k».proof.Proof.Layer

@[expose] public section

set_option maxRecDepth 16384

noncomputable section

namespace Cert.ReferenceIdeal.Stage

open Idealize.ShloMosaic Cert.ReferenceIdeal Cert.ReferenceIdeal.Gen Cert.Layer Cert.Softmax
open scoped Classical

/-- A 32-bit float array of extended reals. -/
local notation "A" s => FVec Ideal s FTy.f32

/-- The rows of one graph. -/
def rowsOf {K : ℕ} (x : FVec Ideal ⟨3, ![128, 32, K]⟩ .f32) (b : Fin 128) (n : Fin 32) (c : Fin K) : EReal := x (ix3 b n c)

/-- The rows of one graph, of an array whose columns are split into heads. -/
def headsOf (x : A S128x32x4x32) (b : Fin 128) (n : Fin 32) (c : Fin 128) : EReal := x (ix4 b n (head c) (place c))

/-- Which nodes of a graph are neighbours: the source first. -/
def nbr (k : IVec S128x32x32 1) (b : Fin 128) (s d : Fin 32) : Prop := k (ix3 b s d) = 1#1

/-- The edge's term: the embedding of its class. -/
def term (oh : A S128x32x32x3) (we : A S3x128) (b : Fin 128) (s d : Fin 32) (c : Fin 128) : EReal := ∑ x, oh (ix4 b s d x) * we (ix2 x c)

/-- A choice by a bit. -/
theorem select_eq {α : Type} (b : BitVec 1) (x y : α) : Scalar.select b x y = if b = 1#1 then x else y := by
  rcases BitVec.eq_zero_or_eq_one b with rfl | rfl <;> rfl

/-- A bit as a number. -/
theorem bit_eq (b : BitVec 1) : FloatOps.uitofp (F := Ideal) FTy.f32 b = if b = 1#1 then (1 : EReal) else 0 := by
  rcases BitVec.eq_zero_or_eq_one b with rfl | rfl
  · show (((0#1).toNat : ℝ) : EReal) = _
    simp
  · show (((1#1).toNat : ℝ) : EReal) = _
    simp

/-- The first layer's linear map, on one graph. -/
theorem lin32_eq (x : A S128x32x32) (w : A S32x128) (b : A S128) (g : Fin 128) :
    headsOf (lin32 x w b) g = lin (rowsOf x g) (fun k c => w (ix2 k c)) (fun c => b (ix1 c)) := by
  funext n c
  have e : lin32 x w b (ix4 g n (head c) (place c)) = lin (rowsOf x g) (fun k c => w (ix2 k c)) (fun c => b (ix1 c)) n (col (head c) (place c)) := by
    generalize head c = h
    generalize place c = p
    unfold rowsOf lin col
    pointwise [lin32, bias128]
  rw [col_head_place] at e
  exact e

/-- The second layer's linear map, on one graph. -/
theorem lin128_eq (x : A S128x32x128) (w : A S128x128) (b : A S128) (g : Fin 128) :
    headsOf (lin128 x w b) g = lin (rowsOf x g) (fun k c => w (ix2 k c)) (fun c => b (ix1 c)) := by
  funext n c
  have e : lin128 x w b (ix4 g n (head c) (place c)) = lin (rowsOf x g) (fun k c => w (ix2 k c)) (fun c => b (ix1 c)) n (col (head c) (place c)) := by
    generalize head c = h
    generalize place c = p
    unfold rowsOf lin col
    pointwise [lin128, bias128]
  rw [col_head_place] at e
  exact e

/-- The logits. -/
theorem logits_eq (xl xr : A S128x32x4x32) (oh : A S128x32x32x3) (we : A S3x128) (att : A S4x32) (g : Fin 128) (s d : Fin 32) (h : Fin 4) :
    logits att (edge xl xr oh we) (ix4 g s d h)
      = logit (headsOf xl g) (headsOf xr g) (term oh we g) (fun h x => att (ix2 h x)) h d s := by
  unfold logit headsOf term act
  simp only [head_col, place_col, ← Consts.slope_word]
  unfold col
  pointwise [logits, edge]

/-- The masked logits. -/
theorem masked_eq (k : IVec S128x32x32 1) (l : A S128x32x32x4) (w : BitVec 32) (g : Fin 128) (s d : Fin 32) (h : Fin 4) :
    masked k l w (ix4 g s d h) = if nbr k g s d then l (ix4 g s d h) else Ideal.ofBits .f32 w := by
  have e : masked k l w (ix4 g s d h) = Scalar.select (k (ix3 g s d)) (l (ix4 g s d h)) (Ideal.ofBits .f32 w) := by
    pointwise [masked, maskH, fill]
    rfl
  rw [e, select_eq]
  unfold nbr
  congr

/-- The greatest over the sources. -/
theorem top_eq (l : A S128x32x32x4) (g : Fin 128) (d : Fin 32) (h : Fin 4) : top l (ix4 g 0 d h) = greatest fun s => l (ix4 g s d h) := by
  unfold greatest
  pointwise [top, Consts.bot_word]

/-- The exponentials. -/
theorem expo_eq (k : IVec S128x32x32 1) (l : A S128x32x32x4) (g : Fin 128) (s d : Fin 32) (h : Fin 4) :
    expo k (masked k l 0xF149F2CA#32) (ix4 g s d h)
      = refExp (nbr k g · d) (fun s => l (ix4 g s d h)) (greatest fun s => if nbr k g s d then l (ix4 g s d h) else (Consts.fill : EReal)) s := by
  have e : expo k (masked k l 0xF149F2CA#32) (ix4 g s d h)
      = Ideal.exp (masked k l 0xF149F2CA#32 (ix4 g s d h) - top (masked k l 0xF149F2CA#32) (ix4 g 0 d h)) * FloatOps.uitofp (F := Ideal) FTy.f32 (k (ix3 g s d)) := by
    pointwise [expo, spread, maskH]
  rw [e, top_eq, bit_eq]
  simp only [masked_eq]
  unfold refExp
  rw [show Ideal.ofBits .f32 0xF149F2CA#32 = (Consts.fill : EReal) from Consts.fill_word]
  unfold nbr
  congr

/-- The weights from the exponentials. -/
theorem alpha_eq (ex : A S128x32x32x4) (g : Fin 128) (s d : Fin 32) (h : Fin 4) :
    alpha ex (ix4 g s d h) = weigh (fun s => ex (ix4 g s d h)) s := by
  unfold weigh
  pointwise [alpha, spread, Consts.eps_word]

/-- The layer on one graph. -/
theorem layer_eq (k : IVec S128x32x32 1) (xl xr : A S128x32x4x32) (oh : A S128x32x32x3) (we : A S3x128) (att : A S4x32) (b : A S128)
    (g : Fin 128) (d : Fin 32) (c : Fin 128) :
    layer k (logits att (edge xl xr oh we)) xl b (ix3 g d c)
      = attend (nbr k g) (headsOf xl g) (headsOf xr g) (term oh we g) (fun h x => att (ix2 h x)) (fun c => b (ix1 c)) d c := by
  have e : ∀ h, (fun s => alpha (expo k (masked k (logits att (edge xl xr oh we)) 0xF149F2CA#32)) (ix4 g s d h))
      = refWeight (nbr k g · d) (logit (headsOf xl g) (headsOf xr g) (term oh we g) (fun h x => att (ix2 h x)) h d) := by
    intro h
    funext s
    rw [alpha_eq]
    unfold refWeight
    congr 1
    funext s
    rw [expo_eq]
    simp only [logits_eq]
  unfold attend
  simp only [← e]
  unfold layer
  generalize alpha (expo k (masked k (logits att (edge xl xr oh we)) 0xF149F2CA#32)) = a
  unfold headsOf head place
  pointwise [collect, bias128]

end Cert.ReferenceIdeal.Stage

end
-- ==== Proof.Near.lean ====
/-
Neighbours, on both sides: the two programs take the same pairs of nodes, though one subtracts the positions the other
way round.
-/
module

public import proofs.«01_k».proof.Proof.Block
public import proofs.«01_k».proof.Proof.RRead

@[expose] public section

set_option maxRecDepth 16384

noncomputable section

namespace Cert

open Idealize.ShloMosaic
open scoped Classical

namespace Near

/-- Which nodes are neighbours, from the two coordinates: two different ones whose distance is small enough. -/
def Close (x y : Fin 32 → EReal) (s d : Fin 32) : Prop :=
  (x d - x s) * (x d - x s) + (y d - y s) * (y d - y s) ≤ Ideal.ofBits .f32 1048576000#32 ∧ s ≠ d

/-- The square of a difference doesn't depend on the order. -/
theorem sq_comm (x y : EReal) : (x - y) * (x - y) = (y - x) * (y - x) := by
  induction x using EReal.rec <;> induction y using EReal.rec <;> first | rfl | simp | skip
  norm_cast
  ring

/-- A conjunction of two bits. -/
theorem andi_iff (x y : BitVec 1) : IntOp.andi x y = 1#1 ↔ x = 1#1 ∧ y = 1#1 := by
  revert x y; decide

/-- A truth value's bit. -/
theorem ofBool_iff (x : Bool) : BitVec.ofBool x = 1#1 ↔ x = true := by
  revert x; decide

end Near

namespace KernelIdeal.Stage

open Cert.KernelIdeal Cert.KernelIdeal.Gen Cert.Near

/-- The nodes' numbers differ if the nodes do. -/
theorem ne_bit : ∀ d s : Fin 32, IntOp.cmpi .ne (BitVec.ofNat 32 d.val) (BitVec.ofNat 32 s.val) = 1#1 ↔ s ≠ d := by
  decide +kernel

/-- The kernel's neighbours. -/
theorem near_eq (o : Operands) (g : Fin 16) (x y : Fin 32 → EReal)
    (hxd : ∀ d, o.pxd (ix4 g d 0 0) = x d) (hxs : ∀ s, o.pxs (ix4 g 0 0 s) = x s)
    (hyd : ∀ d, o.pyd (ix4 g d 0 0) = y d) (hys : ∀ s, o.pys (ix4 g 0 0 s) = y s) (s d : Fin 32) :
    nbr o.near g s d ↔ Close x y s d := by
  have e : o.near (ix4 g d 0 s) = IntOp.andi
      (BitVec.ofBool (decide ((o.pxd (ix4 g d 0 0) - o.pxs (ix4 g 0 0 s)) * (o.pxd (ix4 g d 0 0) - o.pxs (ix4 g 0 0 s))
        + (o.pyd (ix4 g d 0 0) - o.pys (ix4 g 0 0 s)) * (o.pyd (ix4 g d 0 0) - o.pys (ix4 g 0 0 s)) ≤ Ideal.ofBits .f32 1048576000#32)))
      (IntOp.cmpi .ne (BitVec.ofNat 32 d.val) (BitVec.ofNat 32 s.val)) := by
    pointwise [Operands.near, k0_pay7, k0_pay8, k0_pay9]
  unfold nbr Close
  rw [e, andi_iff, ofBool_iff, decide_eq_true_iff, ne_bit, hxd, hxs, hyd, hys]

end KernelIdeal.Stage

namespace ReferenceIdeal.Stage

open Cert.ReferenceIdeal Cert.ReferenceIdeal.Gen Cert.Near

/-- The nodes' numbers differ if the nodes do. -/
theorem ne_bit : ∀ d s : Fin 32,
    ~~~(IntOp.cmpi .eq (IntOp.addi (BitVec.ofNat 32 s.val) 0#32) (BitVec.ofNat 32 d.val)) = 1#1 ↔ s ≠ d := by
  decide +kernel

/-- The reference's neighbours. -/
theorem near_eq (obs : FVec Ideal S128x2145 .f32) (b : Fin 128) (s d : Fin 32) :
    nbr (mask obs) b s d ↔ Close (fun n => nodes obs (ix3 b n 0)) (fun n => nodes obs (ix3 b n 1)) s d := by
  have e : mask obs (ix3 b s d) = IntOp.andi
      (BitVec.ofBool (decide (∑ x : Fin 2, (nodes obs (ix3 b s ⟨x.val, by omega⟩) - nodes obs (ix3 b d ⟨x.val, by omega⟩))
        * (nodes obs (ix3 b s ⟨x.val, by omega⟩) - nodes obs (ix3 b d ⟨x.val, by omega⟩)) ≤ Ideal.ofBits .f32 1048576000#32)))
      (~~~(IntOp.cmpi .eq (IntOp.addi (BitVec.ofNat 32 s.val) 0#32) (BitVec.ofNat 32 d.val))) := by
    unfold mask diff pos
    generalize nodes obs = n
    pointwise []
  unfold nbr Close
  rw [e, andi_iff, ofBool_iff, decide_eq_true_iff, ne_bit, Fin.sum_univ_two]
  rw [sq_comm, sq_comm (nodes obs (ix3 b s ⟨(1 : Fin 2).val, _⟩))]
  rfl

/-- A one-hot array of class zero selects the first row. -/
theorem term_eq (obs : FVec Ideal S128x2145 .f32) (we : FVec Ideal S3x128 .f32) (b : Fin 128) (s d : Fin 32) (c : Fin 128)
    (h : cls obs (ix3 b s d) = 0#32) : term (oneHot obs) we b s d c = we (ix2 0 c) := by
  have e : ∀ x : Fin 3, oneHot obs (ix4 b s d x)
      = FloatOps.uitofp (F := Ideal) FTy.f32 (IntOp.cmpi .eq (cls obs (ix3 b s d)) (BitVec.ofNat 32 x.val)) := by
    intro x
    unfold oneHot
    generalize cls obs = k
    pointwise []
  unfold term
  simp only [e, h, bit_eq]
  rw [Fin.sum_univ_three]
  rw [if_pos (by decide), if_neg (by decide), if_neg (by decide)]
  simp

end ReferenceIdeal.Stage

end Cert

end
-- ==== Proof.Ref.lean ====
/-
What the reference computes, as a composition of the steps of `Stage`: the reference's run ends with its result at
`Args.result` of the arguments.
-/
module

public import proofs.«01_k».proof.Proof.Stage
public import proofs.«01_k».proof.Proof.Gen.ReferenceIdeal.Run

@[expose] public section

set_option maxRecDepth 16384

noncomputable section

namespace Cert.ReferenceIdeal.Stage

open Idealize.ShloMosaic Idealize.SL.Sem Idealize.ShloMosaic.StableHlo Cert.ReferenceIdeal Cert.ReferenceIdeal.Gen
  Cert.ReferenceIdeal.Value

/-- A 32-bit float array of extended reals. -/
local notation "A" s => FVec Ideal s FTy.f32

/-- The arguments. -/
structure Args where
  obs : A S128x2145
  ew1 : A S32x32
  eb1 : A S32
  ew2 : A S32x32
  eb2 : A S32
  wl1 : A S32x128
  bl1 : A S128
  wr1 : A S32x128
  br1 : A S128
  we1 : A S3x128
  att1 : A S4x32
  bias1 : A S128
  wl2 : A S128x128
  bl2 : A S128
  wr2 : A S128x128
  br2 : A S128
  we2 : A S3x128
  att2 : A S4x32
  bias2 : A S128
  fw : A S288x5
  fb : A S5

namespace Args

variable (a : Args)

/-- The encoded nodes. -/
def enc : A S128x32x32 := dense (dense (feats a.obs) a.ew1 a.eb1) a.ew2 a.eb2

/-- The first layer's values of the sources. -/
def xl1 : A S128x32x4x32 := lin32 a.enc a.wl1 a.bl1

/-- The first layer's values of the targets. -/
def xr1 : A S128x32x4x32 := lin32 a.enc a.wr1 a.br1

/-- The first layer's logits. -/
def l1 : A S128x32x32x4 := logits a.att1 (edge a.xl1 a.xr1 (oneHot a.obs) a.we1)

/-- The first layer's result. -/
def y1 : A S128x32x128 := layer (mask a.obs) a.l1 a.xl1 a.bias1

/-- The second layer's input. -/
def mid : A S128x32x128 := scaled a.obs a.y1

/-- The second layer's values of the sources. -/
def xl2 : A S128x32x4x32 := lin128 a.mid a.wl2 a.bl2

/-- The second layer's values of the targets. -/
def xr2 : A S128x32x4x32 := lin128 a.mid a.wr2 a.br2

/-- The second layer's logits. -/
def l2 : A S128x32x32x4 := logits a.att2 (edge a.xl2 a.xr2 (oneHot a.obs) a.we2)

/-- The second layer's result. -/
def y2 : A S128x32x128 := layer (mask a.obs) a.l2 a.xl2 a.bias2

/-- The result. -/
def result : A S128x5 := final (pick32 a.enc a.obs) (pick128 a.y1 a.obs) (pick128 a.y2 a.obs) a.fw a.fb

end Args

/-- The arguments that a valuation of the buffers holds. -/
def argsOf (V : Valuation τ sig (Elt Ideal)) : Args where
  obs := V (Proc.devRef .tc main_arg0)
  ew1 := V (Proc.devRef .tc main_arg1)
  eb1 := V (Proc.devRef .tc main_arg2)
  ew2 := V (Proc.devRef .tc main_arg3)
  eb2 := V (Proc.devRef .tc main_arg4)
  wl1 := V (Proc.devRef .tc main_arg5)
  bl1 := V (Proc.devRef .tc main_arg6)
  wr1 := V (Proc.devRef .tc main_arg7)
  br1 := V (Proc.devRef .tc main_arg8)
  we1 := V (Proc.devRef .tc main_arg9)
  att1 := V (Proc.devRef .tc main_arg10)
  bias1 := V (Proc.devRef .tc main_arg11)
  wl2 := V (Proc.devRef .tc main_arg12)
  bl2 := V (Proc.devRef .tc main_arg13)
  wr2 := V (Proc.devRef .tc main_arg14)
  br2 := V (Proc.devRef .tc main_arg15)
  we2 := V (Proc.devRef .tc main_arg16)
  att2 := V (Proc.devRef .tc main_arg17)
  bias2 := V (Proc.devRef .tc main_arg18)
  fw := V (Proc.devRef .tc main_arg19)
  fb := V (Proc.devRef .tc main_arg20)

variable (V : Valuation τ sig (Elt Ideal))

theorem v7_eq : res_main_v7 V = ctrl (argsOf V).obs := rfl
theorem v28_eq : res_main_v28 V = mask (argsOf V).obs := rfl
theorem v41_eq : res_main_v41 V = (argsOf V).enc := rfl
theorem v64_eq : res_main_v64 V = (argsOf V).xl1 := by unfold res_main_v64; rw [v41_eq]; rfl
theorem v77_eq : res_main_v77 V = edge (argsOf V).xl1 (argsOf V).xr1 (oneHot (argsOf V).obs) (argsOf V).we1 := by
  unfold res_main_v77; rw [v64_eq, v41_eq]; rfl
theorem v86_eq : res_main_v86 V = masked (mask (argsOf V).obs) (argsOf V).l1 0xF149F2CA#32 := by
  unfold res_main_v86; rw [v77_eq, v28_eq]; rfl
theorem v95_eq : res_main_v95 V = expo (mask (argsOf V).obs) (masked (mask (argsOf V).obs) (argsOf V).l1 0xF149F2CA#32) := by
  unfold res_main_v95; rw [v86_eq, v28_eq]; rfl
theorem v108_eq : res_main_v108 V = (argsOf V).y1 := by unfold res_main_v108; rw [v95_eq, v64_eq]; rfl
theorem v110_eq : res_main_v110 V = (argsOf V).mid := by unfold res_main_v110; rw [v108_eq]; rfl
theorem v129_eq : res_main_v129 V = (argsOf V).xl2 := by unfold res_main_v129; rw [v110_eq]; rfl
theorem v142_eq : res_main_v142 V = edge (argsOf V).xl2 (argsOf V).xr2 (oneHot (argsOf V).obs) (argsOf V).we2 := by
  unfold res_main_v142; rw [v129_eq, v110_eq]; rfl
theorem v151_eq : res_main_v151 V = masked (mask (argsOf V).obs) (argsOf V).l2 0xF149F2CA#32 := by
  unfold res_main_v151; rw [v142_eq, v28_eq]; rfl
theorem v160_eq : res_main_v160 V = expo (mask (argsOf V).obs) (masked (mask (argsOf V).obs) (argsOf V).l2 0xF149F2CA#32) := by
  unfold res_main_v160; rw [v151_eq, v28_eq]; rfl

/-- The reference's result is the composition of the steps. -/
theorem v192_eq : val4 V (Proc.devRef .tc main_v192) = (argsOf V).result := by
  rw [val4_main_v192, v160_eq, v129_eq, v108_eq, v41_eq]; rfl

end Cert.ReferenceIdeal.Stage

end
-- ==== Proof.Within.lean ====
/-
The precondition, as a composition of the steps of `Stage`.
-/
module

public import proofs.«01_k».proof.Proof.Ref
public import proofs.«01_k».proof.Proof.Gen.Pre_inputs_in_range

@[expose] public section

set_option maxRecDepth 16384

noncomputable section

namespace Cert.ReferenceIdeal.Stage

open Idealize.ShloMosaic Cert.ReferenceIdeal Cert.ReferenceIdeal.Gen

/-- A 32-bit float array of extended reals. -/
local notation "A" s => FVec Ideal s FTy.f32

/-- A bit per graph, for each pair of its nodes. -/
def perGraph (v : IVec Cert.Pre_inputs_in_range.S128x1x1x1 1) : IVec S128x32x32x1 1 :=
  broadcastInDim S128x32x32x1 ![0, 1, 2, 3] Cert.Pre_inputs_in_range.Gen.bcast_S128x1x1x1_S128x32x32x1_0_1_2_3 v

/-- The controlled node of each graph, with three axes of one. -/
def ctrl4 (obs : A S128x2145) : IVec Cert.Pre_inputs_in_range.S128x1x1x1 32 :=
  broadcastInDim Cert.Pre_inputs_in_range.S128x1x1x1 ![0] Cert.Pre_inputs_in_range.Gen.bcast_S128_S128x1x1x1_0 (ctrl obs)

/-- One integer at every graph, with three axes of one. -/
def int4 (w : BitVec 32) : IVec Cert.Pre_inputs_in_range.S128x1x1x1 32 :=
  broadcastInDim Cert.Pre_inputs_in_range.S128x1x1x1 ![] Cert.Pre_inputs_in_range.Gen.bcast_S_S128x1x1x1 (constantI S_ 32 w)

/-- Whether an edge has class zero or joins no neighbours, and the controlled node is one of the 32. -/
def nodesOk (obs : A S128x2145) : IVec S128x32x32x1 1 :=
  andi (andi
      (maskH (ori (cmpi .eq (cls obs) (broadcastInDim S128x32x32 ![] bcast_S_S128x32x32 (constantI S_ 32 0#32))) (noti (mask obs))))
      (perGraph (cmpi .sge (ctrl4 obs) (int4 0#32))))
    (perGraph (cmpi .slt (ctrl4 obs) (int4 32#32)))

/-- Whether the greatest logit of a node's neighbours is at least −36, where it has a neighbour. -/
def logitsOk (k : IVec S128x32x32 1) (l : A S128x32x32x4) : IVec S128x32x32x4 1 :=
  cmpf .oge
    (select (broadcastInDim S128x32x32x4 ![0, 1, 2, 3] bcast_S128x32x32x1_S128x32x32x4_0_1_2_3 (maskH k))
      (spread (top (masked k l 0xFF800000#32))) (fill 0x00000000#32))
    (broadcastInDim S128x32x32x4 ![] bcast_S_S128x32x32x4 (constant S_ .f32 0xC2100000#32))

/-- The precondition's bit, at every pair of nodes and head. -/
def Args.ok (a : Args) : IVec S128x32x32x4 1 :=
  andi (andi
      (broadcastInDim S128x32x32x4 ![0, 1, 2, 3] bcast_S128x32x32x1_S128x32x32x4_0_1_2_3 (nodesOk a.obs))
      (logitsOk (mask a.obs) a.l1))
    (logitsOk (mask a.obs) a.l2)

/-- The precondition is the composition of the steps. -/
theorem ok_eq (a : Args) :
    Cert.Pre_inputs_in_range.fn (F := Ideal) a.obs a.ew1 a.eb1 a.ew2 a.eb2 a.wl1 a.bl1 a.wr1 a.br1 a.we1 a.att1 a.bias1
      a.wl2 a.bl2 a.wr2 a.br2 a.we2 a.att2 a.bias2 a.fw a.fb = a.ok := rfl

end Cert.ReferenceIdeal.Stage

end
-- ==== Proof.Fits.lean ====
/-
What the precondition says, node by node.
-/
module

public import proofs.«01_k».proof.Proof.Within
public import proofs.«01_k».proof.Proof.RRead

@[expose] public section

set_option maxRecDepth 16384

noncomputable section

namespace Cert.ReferenceIdeal.Stage

open Idealize.ShloMosaic Cert.ReferenceIdeal Cert.ReferenceIdeal.Gen Cert.Layer Cert.Softmax
open scoped Classical

/-- A 32-bit float array of extended reals. -/
local notation "A" s => FVec Ideal s FTy.f32

/-- What the precondition says: an edge between neighbours has class zero, the controlled node is one of the 32, and
    the greatest logit of a node's neighbours is at least −36, in both layers. -/
structure Args.Fits (a : Args) : Prop where
  cls : ∀ b s d, nbr (mask a.obs) b s d → cls a.obs (ix3 b s d) = 0#32
  nonneg : ∀ b, (0 : ℤ) ≤ (ctrl a.obs (ix1 b)).toInt
  lt : ∀ b, (ctrl a.obs (ix1 b)).toInt < 32
  top1 : ∀ b h s d, nbr (mask a.obs) b s d → ((-36 : ℝ) : EReal) ≤ greatest (cut (nbr (mask a.obs) b · d)
    (logit (headsOf a.xl1 b) (headsOf a.xr1 b) (term (oneHot a.obs) a.we1 b) (fun h x => a.att1 (ix2 h x)) h d))
  top2 : ∀ b h s d, nbr (mask a.obs) b s d → ((-36 : ℝ) : EReal) ≤ greatest (cut (nbr (mask a.obs) b · d)
    (logit (headsOf a.xl2 b) (headsOf a.xr2 b) (term (oneHot a.obs) a.we2 b) (fun h x => a.att2 (ix2 h x)) h d))

/-- Two bits are both set if their conjunction is. -/
theorem and_bit {x y : BitVec 1} (h : IntOp.andi x y = 1#1) : x = 1#1 ∧ y = 1#1 := by
  revert x y; decide

/-- A truth value is true if its bit is set. -/
theorem set_bit {x : Bool} (h : BitVec.ofBool x = 1#1) : x = true := by
  revert x; decide

/-- The bound on the logits, read at an index. -/
theorem logitsOk_apply (k : IVec S128x32x32 1) (l : A S128x32x32x4) (b : Fin 128) (s d : Fin 32) (h : Fin 4)
    (ok : logitsOk k l (ix4 b s d h) = 1#1) (hk : nbr k b s d) :
    ((-36 : ℝ) : EReal) ≤ greatest (cut (nbr k b · d) fun s => l (ix4 b s d h)) := by
  have e : logitsOk k l (ix4 b s d h) = BitVec.ofBool (decide (((-36 : ℝ) : EReal) ≤
      Scalar.select (k (ix3 b s d)) (top (masked k l 0xFF800000#32) (ix4 b 0 d h)) (Ideal.ofBits .f32 0x00000000#32))) := by
    rw [← Consts.bound_word]
    generalize hm : masked k l 0xFF800000#32 = m
    unfold logitsOk
    rw [hm]
    pointwise [spread, maskH, fill]
    congr
    exact Ideal.ofBits_zero_f32
  rw [e, select_eq, if_pos (show k (ix3 b s d) = 1#1 from hk), top_eq] at ok
  simp only [masked_eq] at ok
  rw [show Ideal.ofBits .f32 0xFF800000#32 = (⊥ : EReal) from Consts.bot_word] at ok
  exact of_decide_eq_true (set_bit ok)

/-- The bits of the classes and of the controlled nodes, read at an index. -/
theorem nodesOk_apply (obs : A S128x2145) (b : Fin 128) (s d : Fin 32) (ok : nodesOk obs (ix4 b s d 0) = 1#1) :
    (nbr (mask obs) b s d → cls obs (ix3 b s d) = 0#32) ∧ (0 : ℤ) ≤ (ctrl obs (ix1 b)).toInt ∧ (ctrl obs (ix1 b)).toInt < 32 := by
  have e : nodesOk obs (ix4 b s d 0) = IntOp.andi (IntOp.andi
      (IntOp.ori (IntOp.cmpi .eq (cls obs (ix3 b s d)) 0#32) (~~~ (mask obs (ix3 b s d))))
      (IntOp.cmpi .sge (ctrl obs (ix1 b)) 0#32)) (IntOp.cmpi .slt (ctrl obs (ix1 b)) 32#32) := by
    unfold nodesOk ctrl4
    generalize cls obs = c
    generalize mask obs = m
    generalize ctrl obs = t
    pointwise [maskH, perGraph, int4]
  rw [e] at ok
  obtain ⟨⟨h₁, h₂⟩, h₃⟩ := (and_bit ok).imp_left and_bit
  refine ⟨fun hk => ?_, ?_, ?_⟩
  · unfold nbr at hk
    rw [hk] at h₁
    by_contra hc
    have : IntOp.cmpi .eq (cls obs (ix3 b s d)) 0#32 = 0#1 := by
      show BitVec.ofBool (cls obs (ix3 b s d) == 0#32) = 0#1
      rw [beq_eq_false_iff_ne.mpr hc]; rfl
    rw [this] at h₁
    exact absurd h₁ (by decide)
  · by_contra hc
    have : IntOp.cmpi .sge (ctrl obs (ix1 b)) 0#32 = 0#1 := by
      show BitVec.ofBool (BitVec.sle 0#32 (ctrl obs (ix1 b))) = 0#1
      rw [BitVec.sle_eq_decide, decide_eq_false (by simpa using hc)]; rfl
    rw [this] at h₂
    exact absurd h₂ (by decide)
  · by_contra hc
    have : IntOp.cmpi .slt (ctrl obs (ix1 b)) 32#32 = 0#1 := by
      show BitVec.ofBool (BitVec.slt (ctrl obs (ix1 b)) 32#32) = 0#1
      rw [BitVec.slt_eq_decide, decide_eq_false (by simpa using hc)]; rfl
    rw [this] at h₃
    exact absurd h₃ (by decide)

/-- The precondition says what `Fits` says. -/
theorem Args.fits (a : Args) (ok : a.ok = fun _ => 1#1) : a.Fits := by
  have e : ∀ b s d h, nodesOk a.obs (ix4 b s d 0) = 1#1 ∧ logitsOk (mask a.obs) a.l1 (ix4 b s d h) = 1#1
      ∧ logitsOk (mask a.obs) a.l2 (ix4 b s d h) = 1#1 := by
    intro b s d h
    have e' : a.ok (ix4 b s d h) = IntOp.andi (IntOp.andi (nodesOk a.obs (ix4 b s d 0)) (logitsOk (mask a.obs) a.l1 (ix4 b s d h)))
        (logitsOk (mask a.obs) a.l2 (ix4 b s d h)) := by
      unfold Args.ok
      generalize nodesOk a.obs = n
      generalize logitsOk (mask a.obs) a.l1 = l₁
      generalize logitsOk (mask a.obs) a.l2 = l₂
      pointwise []
    rw [ok] at e'
    obtain ⟨⟨h₁, h₂⟩, h₃⟩ := (and_bit e'.symm).imp_left and_bit
    exact ⟨h₁, h₂, h₃⟩
  refine ⟨fun b s d => (nodesOk_apply _ b s d (e b s d 0).1).1, fun b => (nodesOk_apply _ b 0 0 (e b 0 0 0).1).2.1,
    fun b => (nodesOk_apply _ b 0 0 (e b 0 0 0).1).2.2, fun b h s d hk => ?_, fun b h s d hk => ?_⟩
  · have := logitsOk_apply _ _ b s d h (e b s d h).2.1 hk
    unfold Args.l1 at this
    simp only [logits_eq] at this
    exact this
  · have := logitsOk_apply _ _ b s d h (e b s d h).2.2 hk
    unfold Args.l2 at this
    simp only [logits_eq] at this
    exact this

end Cert.ReferenceIdeal.Stage

end
-- ==== Proof.Pick.lean ====
/-
The rows of the controlled nodes, and the last dense layer, read at an index.
-/
module

public import proofs.«01_k».proof.Proof.Fits

@[expose] public section

set_option maxRecDepth 16384

noncomputable section

namespace Cert.ReferenceIdeal.Stage

open Idealize.ShloMosaic Cert.ReferenceIdeal Cert.ReferenceIdeal.Gen

/-- A 32-bit float array of extended reals. -/
local notation "A" s => FVec Ideal s FTy.f32

/-- The dimension numbers of a gather of rows of `K` at two indices. -/
abbrev pairDims (K : ℕ) (wf : GatherDims.WF ⟨3, ![128, 32, K]⟩ ⟨2, ![128, 2]⟩ ⟨2, ![128, K]⟩ [1] [0, 1] [] [0, 1] [] 1 ![1, 1, K]) :
    GatherDims ⟨3, ![128, 32, K]⟩ ⟨2, ![128, 2]⟩ ⟨2, ![128, K]⟩ where
  offsetDims := [1]
  collapsedSliceDims := [0, 1]
  operandBatchingDims := []
  startIndicesBatchingDims := []
  startIndexMap := [0, 1]
  indexVectorDim := 1
  sliceSizes := ![1, 1, K]
  wf := wf

/-- The gather reads the row at the two indices, each brought into range. -/
theorem gather_pair {K : ℕ} (wf : GatherDims.WF ⟨3, ![128, 32, K]⟩ ⟨2, ![128, 2]⟩ ⟨2, ![128, K]⟩ [1] [0, 1] [] [0, 1] [] 1 ![1, 1, K])
    (x : FVec Ideal ⟨3, ![128, 32, K]⟩ .f32) (idx : IVec ⟨2, ![128, 2]⟩ 32) (b : Fin 128) (c : Fin K) :
    Host.gather (pairDims K wf) x idx (ix2 b c)
      = x (ix3 ⟨min (idx (ix2 b 0)).toInt.toNat 127, by omega⟩ ⟨min (idx (ix2 b 1)).toInt.toNat 31, by omega⟩ c) := by
  unfold Host.gather
  congr 1
  funext a
  refine Fin.ext ?_
  show (pairDims K wf).start (ix2 b c) idx a + (pairDims K wf).batchCoord (ix2 b c) a + (pairDims K wf).offCoord (ix2 b c) a = _
  rw [GatherDims.batchCoord_eq_zero _ _ _ List.not_mem_nil, Nat.add_zero]
  have lead : ∀ (a : Fin 3) (k : Fin 2) (ha : a ∈ (pairDims K wf).startIndexMap) (_ : List.idxOf a (pairDims K wf).startIndexMap = k.val),
      (pairDims K wf).start (ix2 b c) idx a + (pairDims K wf).offCoord (ix2 b c) a
        = min (idx (ix2 b k)).toInt.toNat ((⟨3, ![128, 32, K]⟩ : Shape).size a - ![1, 1, K] a) := by
    intro a k ha hk
    rw [GatherDims.offCoord_eq_zero _ _ _ (fun h => ((GatherDims.mem_sKept _ _).mp h).1 ha), Nat.add_zero]
    unfold GatherDims.start
    rw [dif_pos ha]
    have hsi : (pairDims K wf).siIdx (ix2 b c) ⟨List.idxOf a (pairDims K wf).startIndexMap, List.idxOf_lt_length_iff.2 ha⟩ = ix2 b k := by
      funext e
      refine Fin.ext ?_
      match e with
      | ⟨0, _⟩ => rfl
      | ⟨1, _⟩ => exact hk
    rw [hsi]
  match a with
  | ⟨0, _⟩ => exact lead 0 0 (show (0 : Fin 3) ∈ ([0, 1] : List (Fin 3)) by decide) rfl
  | ⟨1, _⟩ => exact lead 1 1 (show (1 : Fin 3) ∈ ([0, 1] : List (Fin 3)) by decide) rfl
  | ⟨2, _⟩ =>
    have : (pairDims K wf).start (ix2 b c) idx 2 = 0 := by
      unfold GatherDims.start
      rw [dif_neg (show (2 : Fin 3) ∉ ([0, 1] : List (Fin 3)) by decide)]
    show (pairDims K wf).start (ix2 b c) idx 2 + (pairDims K wf).offCoord (ix2 b c) 2 = c.val
    rw [this, Nat.zero_add]
    unfold GatherDims.offCoord
    rw [dif_pos ((GatherDims.mem_sKept _ _).mpr ⟨show (2 : Fin 3) ∉ ([0, 1] : List (Fin 3)) by decide, List.not_mem_nil⟩)]
    rfl

/-- The node that an integer names, brought into range. -/
def node (k : BitVec 32) : Fin 32 := ⟨min k.toInt.toNat 31, by omega⟩

/-- The first index is the graph. -/
theorem where_graph (obs : A S128x2145) (b : Fin 128) : (where_ obs (ix2 b 0)).toInt = b.val := by
  have e : where_ obs (ix2 b 0) = Scalar.select (IntOp.cmpi .slt (BitVec.ofNat 32 b.val) 0#32)
      (IntOp.addi (BitVec.ofNat 32 b.val) 128#32) (BitVec.ofNat 32 b.val) := by
    unfold where_
    generalize ctrl obs = t
    pointwise []
  rw [e]
  clear e
  revert b
  decide

/-- The second index is the controlled node. -/
theorem where_node (a : Args) (h : a.Fits) (b : Fin 128) : where_ a.obs (ix2 b 1) = ctrl a.obs (ix1 b) := by
  have e : where_ a.obs (ix2 b 1) = Scalar.select (IntOp.cmpi .slt (ctrl a.obs (ix1 b)) 0#32)
      (IntOp.addi (ctrl a.obs (ix1 b)) 32#32) (ctrl a.obs (ix1 b)) := by
    unfold where_
    generalize ctrl a.obs = t
    pointwise []
  rw [e]
  have : IntOp.cmpi .slt (ctrl a.obs (ix1 b)) 0#32 = 0#1 := by
    show BitVec.ofBool (BitVec.slt (ctrl a.obs (ix1 b)) 0#32) = 0#1
    rw [BitVec.slt_eq_decide, decide_eq_false (by simpa using h.nonneg b)]; rfl
  rw [this]
  rfl

/-- The rows of 32 of the controlled nodes. -/
theorem pick32_eq (a : Args) (h : a.Fits) (x : A S128x32x32) (b : Fin 128) (c : Fin 32) :
    pick32 x a.obs (ix2 b c) = x (ix3 b (node (ctrl a.obs (ix1 b))) c) := by
  refine (gather_pair _ x (where_ a.obs) b c).trans ?_
  have e : (⟨min (where_ a.obs (ix2 b 0)).toInt.toNat 127, by omega⟩ : Fin 128) = b := by
    refine Fin.ext ?_
    show min (where_ a.obs (ix2 b 0)).toInt.toNat 127 = b.val
    rw [where_graph, Int.toNat_natCast]; omega
  rw [e]
  unfold node
  simp only [where_node a h b]

/-- The rows of 128 of the controlled nodes. -/
theorem pick128_eq (a : Args) (h : a.Fits) (x : A S128x32x128) (b : Fin 128) (c : Fin 128) :
    pick128 x a.obs (ix2 b c) = x (ix3 b (node (ctrl a.obs (ix1 b))) c) := by
  refine (gather_pair _ x (where_ a.obs) b c).trans ?_
  have e : (⟨min (where_ a.obs (ix2 b 0)).toInt.toNat 127, by omega⟩ : Fin 128) = b := by
    refine Fin.ext ?_
    show min (where_ a.obs (ix2 b 0)).toInt.toNat 127 = b.val
    rw [where_graph, Int.toNat_natCast]; omega
  rw [e]
  unfold node
  simp only [where_node a h b]

/-- A sum over 288 places in the three parts of 32, 128 and 128. -/
theorem sum_parts (f : Fin 288 → EReal) :
    ∑ x, f x = ∑ x : Fin 32, f ⟨x.val, by omega⟩ + ∑ x : Fin 128, f ⟨32 + x.val, by omega⟩ + ∑ x : Fin 128, f ⟨160 + x.val, by omega⟩ := by
  rw [Fin.sum_univ_add (a := 160) (b := 128) f, Fin.sum_univ_add (a := 32) (b := 128)]
  rfl

/-- The last dense layer, in three parts. -/
theorem final_eq (x1 : A S128x32) (x2 x3 : A S128x128) (w : A S288x5) (b : A S5) (g : Fin 128) (k : Fin 5) :
    final x1 x2 x3 w b (ix2 g k)
      = ∑ x : Fin 32, x1 (ix2 g x) * w (ix2 ⟨x.val, by omega⟩ k) + ∑ x : Fin 128, x2 (ix2 g x) * w (ix2 ⟨32 + x.val, by omega⟩ k)
        + ∑ x : Fin 128, x3 (ix2 g x) * w (ix2 ⟨160 + x.val, by omega⟩ k) + b (ix1 k) := by
  let f : Fin 288 → EReal := fun x => (if h : x.val < 32 then x1 (ix2 g ⟨x.val, h⟩)
    else if h : x.val - 32 < 128 then x2 (ix2 g ⟨x.val - 32, h⟩) else x3 (ix2 g ⟨x.val - 32 - 128, by omega⟩)) * w (ix2 x k)
  have e : final x1 x2 x3 w b (ix2 g k) = ∑ x, f x + b (ix1 k) := by
    pointwise [final, f]
  rw [e, sum_parts]
  have e2 : ∀ x : Fin 32, f ⟨x.val, by omega⟩ = x1 (ix2 g x) * w (ix2 ⟨x.val, by omega⟩ k) := fun x => by
    show (if h : x.val < 32 then _ else _) * _ = _
    rw [dif_pos x.isLt]
  have e3 : ∀ x : Fin 128, f ⟨32 + x.val, by omega⟩ = x2 (ix2 g x) * w (ix2 ⟨32 + x.val, by omega⟩ k) := fun x => by
    show (if h : 32 + x.val < 32 then _ else if h : 32 + x.val - 32 < 128 then _ else _) * _ = _
    rw [dif_neg (by omega), dif_pos (by omega)]
    have q : (⟨32 + x.val - 32, by omega⟩ : Fin 128) = x := Fin.ext (show 32 + x.val - 32 = x.val by omega)
    rw [q]
  have e4 : ∀ x : Fin 128, f ⟨160 + x.val, by omega⟩ = x3 (ix2 g x) * w (ix2 ⟨160 + x.val, by omega⟩ k) := fun x => by
    show (if h : 160 + x.val < 32 then _ else if h : 160 + x.val - 32 < 128 then _ else _) * _ = _
    rw [dif_neg (by omega), dif_neg (by omega)]
    have q : (⟨160 + x.val - 32 - 128, by omega⟩ : Fin 128) = x := Fin.ext (show 160 + x.val - 32 - 128 = x.val by omega)
    rw [q]
  simp only [e2, e3, e4]

end Cert.ReferenceIdeal.Stage

end
-- ==== Proof.Agree.lean ====
/-
The equation: on operands that are a block's part of the reference's arguments, the block's result is that part of the
reference's result.
-/
module

public import proofs.«01_k».proof.Proof.Near
public import proofs.«01_k».proof.Proof.Pick

@[expose] public section

set_option maxRecDepth 16384

noncomputable section

namespace Cert

open Idealize.ShloMosaic Cert.Layer Cert.Softmax
open scoped Classical

/-- The operands of a block are the arguments' part at the graphs `G`: the rows of those graphs, and the weights. The
    targets' biases hold the embedding of the edges' class zero, and the attention vectors are spread over the columns
    of all heads. -/
structure Agrees (a : ReferenceIdeal.Stage.Args) (o : KernelIdeal.Stage.Operands) (G : Fin 16 → Fin 128) : Prop where
  feats : ∀ g n k, o.feats (ix3 g n k) = ReferenceIdeal.Stage.feats a.obs (ix3 (G g) n k)
  pxd : ∀ g d, o.pxd (ix4 g d 0 0) = ReferenceIdeal.Stage.nodes a.obs (ix3 (G g) d 0)
  pxs : ∀ g s, o.pxs (ix4 g 0 0 s) = ReferenceIdeal.Stage.nodes a.obs (ix3 (G g) s 0)
  pyd : ∀ g d, o.pyd (ix4 g d 0 0) = ReferenceIdeal.Stage.nodes a.obs (ix3 (G g) d 1)
  pys : ∀ g s, o.pys (ix4 g 0 0 s) = ReferenceIdeal.Stage.nodes a.obs (ix3 (G g) s 1)
  dm : ∀ g n, o.dm (ix3 g n 0) = ReferenceIdeal.Stage.nodes a.obs (ix3 (G g) n 34)
  ctrl : ∀ g, o.ctrl (ix2 g 0) = ReferenceIdeal.Stage.ctrl a.obs (ix1 (G g))
  ew1 : ∀ k c, o.ew1 (ix2 k c) = a.ew1 (ix2 k c)
  eb1 : ∀ c, o.eb1 (ix2 0 c) = a.eb1 (ix1 c)
  ew2 : ∀ k c, o.ew2 (ix2 k c) = a.ew2 (ix2 k c)
  eb2 : ∀ c, o.eb2 (ix2 0 c) = a.eb2 (ix1 c)
  wl1 : ∀ k c, o.wl1 (ix2 k c) = a.wl1 (ix2 k c)
  bl1 : ∀ c, o.bl1 (ix2 0 c) = a.bl1 (ix1 c)
  wr1 : ∀ k c, o.wr1 (ix2 k c) = a.wr1 (ix2 k c)
  br1 : ∀ c, o.br1 (ix2 0 c) = a.br1 (ix1 c) + a.we1 (ix2 0 c)
  att1 : ∀ c h, o.att1 (ix2 c h) = a.att1 (ix2 (head c) (place c)) * (if head c = h then 1 else 0)
  bias1 : ∀ c, o.bias1 (ix2 0 c) = a.bias1 (ix1 c)
  wl2 : ∀ k c, o.wl2 (ix2 k c) = a.wl2 (ix2 k c)
  bl2 : ∀ c, o.bl2 (ix2 0 c) = a.bl2 (ix1 c)
  wr2 : ∀ k c, o.wr2 (ix2 k c) = a.wr2 (ix2 k c)
  br2 : ∀ c, o.br2 (ix2 0 c) = a.br2 (ix1 c) + a.we2 (ix2 0 c)
  att2 : ∀ c h, o.att2 (ix2 c h) = a.att2 (ix2 (head c) (place c)) * (if head c = h then 1 else 0)
  bias2 : ∀ c, o.bias2 (ix2 0 c) = a.bias2 (ix1 c)
  f1 : ∀ (x : Fin 32) k, o.f1 (ix2 x k) = a.fw (ix2 ⟨x.val, by omega⟩ k)
  f2 : ∀ (x : Fin 128) k, o.f2 (ix2 x k) = a.fw (ix2 ⟨32 + x.val, by omega⟩ k)
  f3 : ∀ (x : Fin 128) k, o.f3 (ix2 x k) = a.fw (ix2 ⟨160 + x.val, by omega⟩ k)
  fb : ∀ k, o.fb (ix2 0 k) = a.fb (ix1 k)

namespace ReferenceIdeal.Stage

open Cert.ReferenceIdeal Cert.ReferenceIdeal.Gen

/-- A dense layer of the encoder at an index. -/
theorem dense_eq (x : FVec Ideal S128x32x32 .f32) (w : FVec Ideal S32x32 .f32) (b : FVec Ideal S32 .f32) (g : Fin 128) (n c : Fin 32) :
    dense x w b (ix3 g n c) = max (∑ k, x (ix3 g n k) * w (ix2 k c) + b (ix1 c)) 0 := by
  pointwise [dense]

/-- The scaled rows. -/
theorem scaled_eq (obs : FVec Ideal S128x2145 .f32) (y : FVec Ideal S128x32x128 .f32) (g : Fin 128) (n : Fin 32) (c : Fin 128) :
    scaled obs y (ix3 g n c) = y (ix3 g n c) * nodes obs (ix3 g n 34) := by
  unfold scaled
  generalize nodes obs = x
  pointwise []

end ReferenceIdeal.Stage

namespace Agrees

variable {a : ReferenceIdeal.Stage.Args} {o : KernelIdeal.Stage.Operands} {G : Fin 16 → Fin 128}

/-- The encoded nodes. -/
theorem enc_eq (h : Agrees a o G) (g : Fin 16) :
    KernelIdeal.Stage.rowsOf o.enc g = ReferenceIdeal.Stage.rowsOf a.enc (G g) := by
  funext n c
  unfold KernelIdeal.Stage.rowsOf ReferenceIdeal.Stage.rowsOf KernelIdeal.Stage.Operands.enc ReferenceIdeal.Stage.Args.enc
  rw [KernelIdeal.Stage.pay4_eq, ReferenceIdeal.Stage.dense_eq]
  simp only [KernelIdeal.Stage.pay3_eq, ReferenceIdeal.Stage.dense_eq, KernelIdeal.Stage.graphOf_row, KernelIdeal.Stage.nodeOf_row,
    h.feats, h.ew1, h.eb1, h.ew2, h.eb2]

/-- The neighbours. -/
theorem nbr_eq (h : Agrees a o G) (g : Fin 16) :
    KernelIdeal.Stage.nbr o.near g = ReferenceIdeal.Stage.nbr (ReferenceIdeal.Stage.mask a.obs) (G g) := by
  funext s d
  exact propext ((KernelIdeal.Stage.near_eq o g _ _ (h.pxd g) (h.pxs g) (h.pyd g) (h.pys g) s d).trans
    (ReferenceIdeal.Stage.near_eq a.obs (G g) s d).symm)

/-- The first layer. -/
theorem y1_eq (h : Agrees a o G) (ok : a.Fits) (g : Fin 16) (d : Fin 32) (c : Fin 128) :
    o.y1 (ix3 g d c) = a.y1 (ix3 (G g) d c) := by
  refine (KernelIdeal.Stage.finish_eq _ _ g d c).trans ?_
  refine Eq.trans ?_ (ReferenceIdeal.Stage.layer_eq _ a.xl1 a.xr1 _ a.we1 a.att1 a.bias1 (G g) d c).symm
  have hl : KernelIdeal.Stage.rowsOf o.xl1 g = ReferenceIdeal.Stage.headsOf a.xl1 (G g) := by
    refine (KernelIdeal.Stage.lin32_eq _ _ _ g).trans (Eq.trans ?_ (ReferenceIdeal.Stage.lin32_eq _ _ _ (G g)).symm)
    simp only [h.enc_eq g, h.wl1, h.bl1]
  have hr : ∀ d c, KernelIdeal.Stage.rowsOf o.xr1 g d c = ReferenceIdeal.Stage.headsOf a.xr1 (G g) d c + a.we1 (ix2 0 c) := by
    intro d c
    refine (congrFun (congrFun (KernelIdeal.Stage.lin32_eq _ _ _ g) d) c).trans
      (Eq.trans ?_ (congrArg (· + a.we1 (ix2 0 c)) (congrFun (congrFun (ReferenceIdeal.Stage.lin32_eq _ _ _ (G g)) d) c).symm))
    simp only [h.enc_eq g, h.wr1, h.br1]
    exact lin_add _ _ (fun c => a.br1 (ix1 c)) (fun c => a.we1 (ix2 0 c)) d c
  refine Eq.trans ?_ (kerSum_eq (hd := fun h c => KernelIdeal.Gen.k0_pay2 (F := Ideal) (ix2 h c))
    (att' := fun c h => o.att1 (ix2 c h)) (xr' := KernelIdeal.Stage.rowsOf o.xr1 g) (e₀ := fun c => a.we1 (ix2 0 c)) _
    KernelIdeal.Stage.heads_eq h.att1 hr (fun s d c hs => ReferenceIdeal.Stage.term_eq a.obs a.we1 (G g) s d c (ok.cls _ s d hs))
    (ok.top1 (G g)) d c)
  rw [h.bias1 c]
  refine congrArg (fun z => max (z + a.bias1 (ix1 c)) 0) ((KernelIdeal.Stage.sums_eq _ _ _ _ _ g d c).trans ?_)
  rw [h.nbr_eq g, hl]

/-- The second layer's input. -/
theorem mid_eq (h : Agrees a o G) (ok : a.Fits) (g : Fin 16) :
    KernelIdeal.Stage.rowsOf o.mid g = ReferenceIdeal.Stage.rowsOf a.mid (G g) := by
  funext n c
  unfold KernelIdeal.Stage.rowsOf ReferenceIdeal.Stage.rowsOf KernelIdeal.Stage.Operands.mid ReferenceIdeal.Stage.Args.mid
  rw [KernelIdeal.Stage.scaled_eq, ReferenceIdeal.Stage.scaled_eq, KernelIdeal.Stage.graphOf_row, KernelIdeal.Stage.nodeOf_row,
    h.y1_eq ok, h.dm]

/-- The second layer. -/
theorem y2_eq (h : Agrees a o G) (ok : a.Fits) (g : Fin 16) (d : Fin 32) (c : Fin 128) :
    KernelIdeal.Stage.finish (KernelIdeal.Stage.sums o.near o.xl2 o.xr2 o.att2) o.bias2 (ix3 g d c) = a.y2 (ix3 (G g) d c) := by
  refine (KernelIdeal.Stage.finish_eq _ _ g d c).trans ?_
  refine Eq.trans ?_ (ReferenceIdeal.Stage.layer_eq _ a.xl2 a.xr2 _ a.we2 a.att2 a.bias2 (G g) d c).symm
  have hl : KernelIdeal.Stage.rowsOf o.xl2 g = ReferenceIdeal.Stage.headsOf a.xl2 (G g) := by
    refine (KernelIdeal.Stage.lin128_eq _ _ _ g).trans (Eq.trans ?_ (ReferenceIdeal.Stage.lin128_eq _ _ _ (G g)).symm)
    simp only [h.mid_eq ok g, h.wl2, h.bl2]
  have hr : ∀ d c, KernelIdeal.Stage.rowsOf o.xr2 g d c = ReferenceIdeal.Stage.headsOf a.xr2 (G g) d c + a.we2 (ix2 0 c) := by
    intro d c
    refine (congrFun (congrFun (KernelIdeal.Stage.lin128_eq _ _ _ g) d) c).trans
      (Eq.trans ?_ (congrArg (· + a.we2 (ix2 0 c)) (congrFun (congrFun (ReferenceIdeal.Stage.lin128_eq _ _ _ (G g)) d) c).symm))
    simp only [h.mid_eq ok g, h.wr2, h.br2]
    exact lin_add _ _ (fun c => a.br2 (ix1 c)) (fun c => a.we2 (ix2 0 c)) d c
  refine Eq.trans ?_ (kerSum_eq (hd := fun h c => KernelIdeal.Gen.k0_pay2 (F := Ideal) (ix2 h c))
    (att' := fun c h => o.att2 (ix2 c h)) (xr' := KernelIdeal.Stage.rowsOf o.xr2 g) (e₀ := fun c => a.we2 (ix2 0 c)) _
    KernelIdeal.Stage.heads_eq h.att2 hr (fun s d c hs => ReferenceIdeal.Stage.term_eq a.obs a.we2 (G g) s d c (ok.cls _ s d hs))
    (ok.top2 (G g)) d c)
  rw [h.bias2 c]
  refine congrArg (fun z => max (z + a.bias2 (ix1 c)) 0) ((KernelIdeal.Stage.sums_eq _ _ _ _ _ g d c).trans ?_)
  rw [h.nbr_eq g, hl]

/-- The block's result is the reference's, at the block's graphs. -/
theorem out_eq (h : Agrees a o G) (ok : a.Fits) (g : Fin 16) (k : Fin 5) : o.out (ix2 g k) = a.result (ix2 (G g) k) := by
  have h₀ : (0 : ℤ) ≤ (o.ctrl (ix2 g 0)).toInt := by rw [h.ctrl]; exact ok.nonneg (G g)
  have h₁ : (o.ctrl (ix2 g 0)).toInt < 32 := by rw [h.ctrl]; exact ok.lt (G g)
  have hn : (⟨min (o.ctrl (ix2 g 0)).toInt.toNat 31, by omega⟩ : Fin 32)
      = ReferenceIdeal.Stage.node (ReferenceIdeal.Stage.ctrl a.obs (ix1 (G g))) := by
    rw [← h.ctrl]; rfl
  have he : ∀ n c, o.enc (ix2 (KernelIdeal.Stage.row g n) c) = a.enc (ix3 (G g) n c) :=
    fun n c => congrFun (congrFun (h.enc_eq g) n) c
  refine (KernelIdeal.Stage.pay1_eq _ _ _ _ _ _ _ _ _ g k).trans ?_
  refine Eq.trans ?_ (ReferenceIdeal.Stage.final_eq _ _ _ _ _ (G g) k).symm
  rw [h.fb]
  simp only [h.f1, h.f2, h.f3, ReferenceIdeal.Stage.pick32_eq a ok, ReferenceIdeal.Stage.pick128_eq a ok,
    KernelIdeal.Stage.chosen_eq _ _ g _ h₀ h₁, h.y2_eq ok, hn]
  congr 3
  · refine Finset.sum_congr rfl fun x _ => ?_
    rw [KernelIdeal.Stage.pay6_eq _ _ _ _ g x h₀ h₁, hn]
    exact congrArg (· * _) (he _ x)
  · refine Finset.sum_congr rfl fun x _ => ?_
    refine congrArg (· * _) ((KernelIdeal.Stage.chosen_eq _ _ g _ h₀ h₁).trans ?_)
    rw [hn, h.y1_eq ok]

end Agrees

end Cert

end
-- ==== Proof.Spread.lean ====
/-
The attention vectors as the kernel's host operations prepare them: one column per head, of which a head's own rows
hold its vector and the others hold zero.
-/
module

public import proofs.«01_k».proof.Proof.Gen.KernelIdeal.Launch
public import proofs.«01_k».proof.Proof.RRead

@[expose] public section

set_option maxRecDepth 16384

noncomputable section

namespace Cert.KernelIdeal.Stage

open Idealize.ShloMosaic Cert.KernelIdeal Cert.KernelIdeal.Gen Cert.Layer

/-- A number at each of the 128 rows. -/
def all128 (k : IVec S_ 32) : IVec S128x1 32 := broadcastInDim S128x1 ![] bcast_S_S128x1 k

/-- The rows' numbers. -/
def rowNo : IVec S128x1 32 := broadcastInDim S128x1 ![0] bcast_S128_S128x1_0 (iotaInDim S128 32 0)

/-- The rows' heads: the row's number divided by 32, rounded down. -/
def rowHead : IVec S128x1 32 :=
  select (andi (cmpi .ne (signi rowNo) (all128 (signi (id (constantI S_ 32 32#32)))))
      (cmpi .ne (Host.remsi rowNo (all128 (id (constantI S_ 32 32#32)))) (all128 (constantI S_ 32 0#32))))
    (subi (Host.divsi rowNo (all128 (id (constantI S_ 32 32#32)))) (all128 (constantI S_ 32 1#32)))
    (Host.divsi rowNo (all128 (id (constantI S_ 32 32#32))))

/-- One at a head's own rows, zero elsewhere. -/
def own : FVec Ideal S128x4 .f32 :=
  uitofp .f32 (cmpi .eq (broadcastInDim S128x4 ![0, 1] bcast_S128x1_S128x4_0_1 rowHead)
    (broadcastInDim S128x4 ![0, 1] bcast_S1x4_S128x4_0_1 (broadcastInDim S1x4 ![1] bcast_S4_S1x4_1 (iotaInDim S4 32 0))))

/-- The attention vectors, spread over the rows of all heads. -/
def spread (att : FVec Ideal S4x32 .f32) : FVec Ideal S128x4 .f32 :=
  mulf (broadcastInDim S128x4 ![0, 1] bcast_S128x1_S128x4_0_1 (shapeCast S128x1 att shapeCasts_S4x32_S128x1)) own

/-- A row's number divided by 32, rounded down. -/
def ownHead (c : Fin 128) : BitVec 32 :=
  Scalar.select
    (IntOp.andi
      (IntOp.cmpi (w := 32) .ne (if BitVec.ofNat 32 c.val = 0 then 0 else if (BitVec.ofNat 32 c.val).msb = true then -1 else 1)
        (if (32#32 : BitVec 32) = 0 then 0 else if (32#32).msb = true then -1 else 1))
      (IntOp.cmpi .ne (IntOp.remsi .host (BitVec.ofNat 32 c.val) 32#32) 0#32))
    (IntOp.subi (IntOp.divsi .host (BitVec.ofNat 32 c.val) 32#32) 1#32)
    (IntOp.divsi .host (BitVec.ofNat 32 c.val) 32#32)

/-- It's the row's head. -/
theorem ownHead_eq : ∀ (h : Fin 4) (c : Fin 128),
    IntOp.cmpi .eq (ownHead c) (BitVec.ofNat 32 h.val) = if head c = h then 1#1 else 0#1 := by
  decide +kernel

/-- One at a head's own rows, zero elsewhere. -/
theorem own_eq (c : Fin 128) (h : Fin 4) : own (ix2 c h) = if head c = h then 1 else 0 := by
  have e : own (ix2 c h) = FloatOps.uitofp (F := Ideal) FTy.f32 (IntOp.cmpi .eq (ownHead c) (BitVec.ofNat 32 h.val)) := by
    unfold own ownHead
    pointwise [rowHead, all128, rowNo]
    rfl
  rw [e, ownHead_eq, ReferenceIdeal.Stage.bit_eq]
  split <;> simp

/-- The spread vectors. -/
theorem spread_eq (att : FVec Ideal S4x32 .f32) (c : Fin 128) (h : Fin 4) :
    spread att (ix2 c h) = att (ix2 (head c) (place c)) * (if head c = h then 1 else 0) := by
  rw [← own_eq]
  unfold spread head place
  generalize own = w
  pointwise []

end Cert.KernelIdeal.Stage

end
-- ==== Proof.Entry.lean ====
/-
What the region finds: a block's operands at a point of the grid, read off the arguments.
-/
module

public import proofs.«01_k».proof.Proof.KernelIdealFrame
public import proofs.«01_k».proof.Proof.Agree
public import proofs.«01_k».proof.Proof.Spread
public import Idealize.ShloMosaic.Lib.Pipeline.ValueKit

@[expose] public section

set_option maxRecDepth 16384

noncomputable section

namespace Cert.KernelIdeal.Value

open Idealize.ShloMosaic Idealize.ShloMosaic.TcCoe Idealize.SL.Sem Cert.KernelIdeal Cert.KernelIdeal.Gen Cert.Layer
open Idealize.ShloMosaic.Pipeline (Dat)

variable (m : (ℓ : Loc nD τ sig) → Buf (Elt Ideal) ℓ)

/-- The kernel's arguments, as the reference's. -/
def args (c : Dev nD) : Cert.ReferenceIdeal.Stage.Args where
  obs := m ((c : Thread nD τ).loc main_arg0)
  ew1 := m ((c : Thread nD τ).loc main_arg1)
  eb1 := m ((c : Thread nD τ).loc main_arg2)
  ew2 := m ((c : Thread nD τ).loc main_arg3)
  eb2 := m ((c : Thread nD τ).loc main_arg4)
  wl1 := m ((c : Thread nD τ).loc main_arg5)
  bl1 := m ((c : Thread nD τ).loc main_arg6)
  wr1 := m ((c : Thread nD τ).loc main_arg7)
  br1 := m ((c : Thread nD τ).loc main_arg8)
  we1 := m ((c : Thread nD τ).loc main_arg9)
  att1 := m ((c : Thread nD τ).loc main_arg10)
  bias1 := m ((c : Thread nD τ).loc main_arg11)
  wl2 := m ((c : Thread nD τ).loc main_arg12)
  bl2 := m ((c : Thread nD τ).loc main_arg13)
  wr2 := m ((c : Thread nD τ).loc main_arg14)
  br2 := m ((c : Thread nD τ).loc main_arg15)
  we2 := m ((c : Thread nD τ).loc main_arg16)
  att2 := m ((c : Thread nD τ).loc main_arg17)
  bias2 := m ((c : Thread nD τ).loc main_arg18)
  fw := m ((c : Thread nD τ).loc main_arg19)
  fb := m ((c : Thread nD τ).loc main_arg20)

/-- A block's operands at a point. -/
def operands (c : Dev nD) (t : Fin cfg0.N) : Stage.Operands where
  feats := iblk m c 0 t
  pxd := iblk m c 1 t
  pxs := iblk m c 2 t
  pyd := iblk m c 3 t
  pys := iblk m c 4 t
  dm := iblk m c 5 t
  ctrl := iblk m c 6 t
  ew1 := iblk m c 7 t
  eb1 := iblk m c 8 t
  ew2 := iblk m c 9 t
  eb2 := iblk m c 10 t
  wl1 := iblk m c 11 t
  bl1 := iblk m c 12 t
  wr1 := iblk m c 13 t
  br1 := iblk m c 14 t
  att1 := iblk m c 15 t
  bias1 := iblk m c 16 t
  wl2 := iblk m c 17 t
  bl2 := iblk m c 18 t
  wr2 := iblk m c 19 t
  br2 := iblk m c 20 t
  att2 := iblk m c 21 t
  bias2 := iblk m c 22 t
  f1 := iblk m c 23 t
  f2 := iblk m c 24 t
  f3 := iblk m c 25 t
  fb := iblk m c 26 t

/-- Where a point's blocks lie in the graphs' arrays: the blocks step with the point. -/
theorem idxG : ∀ t : Fin cfg0.N,
    win0_0.index t = ![t.val, 0, 0] ∧ win0_1.index t = ![t.val, 0, 0, 0] ∧ win0_2.index t = ![t.val, 0, 0, 0]
    ∧ win0_3.index t = ![t.val, 0, 0, 0] ∧ win0_4.index t = ![t.val, 0, 0, 0] ∧ win0_5.index t = ![t.val, 0, 0]
    ∧ win0_6.index t = ![t.val, 0] ∧ win0_27.index t = ![t.val, 0] :=
  (by decide +kernel : ∀ t : Fin grid0.N, _)

/-- Where a point's blocks lie in the encoder's and the first layer's weights: they don't move. -/
theorem idxA : ∀ t : Fin cfg0.N,
    win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] :=
  (by decide +kernel : ∀ t : Fin grid0.N, _)

/-- Where a point's blocks lie in the second layer's and the last layer's weights: they don't move. -/
theorem idxB : ∀ t : Fin cfg0.N,
    win0_17.index t = ![0, 0] ∧ win0_18.index t = ![0, 0] ∧ win0_19.index t = ![0, 0] ∧ win0_20.index t = ![0, 0]
    ∧ win0_21.index t = ![0, 0] ∧ win0_22.index t = ![0, 0] ∧ win0_23.index t = ![0, 0] ∧ win0_24.index t = ![0, 0]
    ∧ win0_25.index t = ![0, 0] ∧ win0_26.index t = ![0, 0] :=
  (by decide +kernel : ∀ t : Fin grid0.N, _)

/-- The number of points. -/
theorem points (t : Fin cfg0.N) : t.val < 8 := t.isLt

/-- The graph of a point's block. -/
def graphAt (t : Fin cfg0.N) (g : Fin 16) : Fin 128 := ⟨t.val * 16 + g.val, by have := points t; omega⟩

variable (c : Dev nD) (t : Fin cfg0.N)

/-! ## What the host operations leave -/

theorem v14 : V m c main_call0_v14 = ReferenceIdeal.Stage.feats (args m c).obs := by entry_read; rfl
theorem v15 : V m c main_call0_v15 = extractStridedSlice S128x32x1 ![0, 0, 34] (ReferenceIdeal.Stage.nodes (args m c).obs) slices_S128x32x35_S128x32x1_0_0_34 := by
  entry_read; rfl
theorem v4 : V m c main_call0_v4 = shapeCast S128x32x1x1 (shapeCast S128x32 (extractStridedSlice S128x32x1 ![0, 0, 0]
    (ReferenceIdeal.Stage.nodes (args m c).obs) slices_S128x32x35_S128x32x1_0_0_0) shapeCasts_S128x32x1_S128x32) shapeCasts_S128x32_S128x32x1x1 := by
  entry_read; rfl
theorem v7 : V m c main_call0_v7 = shapeCast S128x1x1x32 (shapeCast S128x32 (extractStridedSlice S128x32x1 ![0, 0, 0]
    (ReferenceIdeal.Stage.nodes (args m c).obs) slices_S128x32x35_S128x32x1_0_0_0) shapeCasts_S128x32x1_S128x32) shapeCasts_S128x32_S128x1x1x32 := by
  entry_read; rfl
theorem v10 : V m c main_call0_v10 = shapeCast S128x32x1x1 (shapeCast S128x32 (extractStridedSlice S128x32x1 ![0, 0, 1]
    (ReferenceIdeal.Stage.nodes (args m c).obs) slices_S128x32x35_S128x32x1_0_0_1) shapeCasts_S128x32x1_S128x32) shapeCasts_S128x32_S128x32x1x1 := by
  entry_read; rfl
theorem v13 : V m c main_call0_v13 = shapeCast S128x1x1x32 (shapeCast S128x32 (extractStridedSlice S128x32x1 ![0, 0, 1]
    (ReferenceIdeal.Stage.nodes (args m c).obs) slices_S128x32x35_S128x32x1_0_0_1) shapeCasts_S128x32x1_S128x32) shapeCasts_S128x32_S128x1x1x32 := by
  entry_read; rfl
theorem v19 : V m c main_call0_v19 = shapeCast S128x1 (ReferenceIdeal.Stage.ctrl (args m c).obs) shapeCasts_S128_S128x1 := by
  entry_read; rfl
theorem v23 : V m c main_call0_v23 = shapeCast S1x128 (addf (args m c).br1 (shapeCast S128
    (extractStridedSlice S1x128 ![0, 0] (args m c).we1 slices_S3x128_S1x128_0_0) shapeCasts_S1x128_S128)) shapeCasts_S128_S1x128 := by
  entry_read; rfl
theorem v27 : V m c main_call0_v27 = shapeCast S1x128 (addf (args m c).br2 (shapeCast S128
    (extractStridedSlice S1x128 ![0, 0] (args m c).we2 slices_S3x128_S1x128_0_0) shapeCasts_S1x128_S128)) shapeCasts_S128_S1x128 := by
  entry_read; rfl
theorem v39 : V m c main_call0_v39 = Stage.spread (args m c).att1 := by entry_read; rfl
theorem v42 : V m c main_call0_v42 = Stage.spread (args m c).att2 := by entry_read; rfl
theorem v43 : V m c main_call0_v43 = extractStridedSlice S32x5 ![0, 0] (args m c).fw slices_S288x5_S32x5_0_0 := by entry_read; rfl
theorem v44 : V m c main_call0_v44 = extractStridedSlice S128x5 ![32, 0] (args m c).fw slices_S288x5_S128x5_32_0 := by entry_read; rfl
theorem v45 : V m c main_call0_v45 = extractStridedSlice S128x5 ![160, 0] (args m c).fw slices_S288x5_S128x5_160_0 := by entry_read; rfl
theorem v46 : V m c main_call0_v46 = shapeCast S1x32 (args m c).eb1 shapeCasts_S32_S1x32 := by entry_read; rfl
theorem v47 : V m c main_call0_v47 = shapeCast S1x32 (args m c).eb2 shapeCasts_S32_S1x32 := by entry_read; rfl
theorem v48 : V m c main_call0_v48 = shapeCast S1x128 (args m c).bl1 shapeCasts_S128_S1x128 := by entry_read; rfl
theorem v49 : V m c main_call0_v49 = shapeCast S1x128 (args m c).bias1 shapeCasts_S128_S1x128 := by entry_read; rfl
theorem v50 : V m c main_call0_v50 = shapeCast S1x128 (args m c).bl2 shapeCasts_S128_S1x128 := by entry_read; rfl
theorem v51 : V m c main_call0_v51 = shapeCast S1x128 (args m c).bias2 shapeCasts_S128_S1x128 := by entry_read; rfl
theorem v52 : V m c main_call0_v52 = shapeCast S1x5 (args m c).fb shapeCasts_S5_S1x5 := by entry_read; rfl

end Cert.KernelIdeal.Value

end
-- ==== Proof.Reads.lean ====
/-
A point's blocks, read at an index: the graphs' arrays at the block's graphs, the weights in place.
-/
module

public import proofs.«01_k».proof.Proof.Entry

@[expose] public section

set_option maxRecDepth 16384

noncomputable section

namespace Cert.KernelIdeal.Value

open Idealize.ShloMosaic Idealize.ShloMosaic.TcCoe Idealize.SL.Sem Cert.KernelIdeal Cert.KernelIdeal.Gen Cert.Layer

variable (m : (ℓ : Loc nD τ sig) → Buf (Elt Ideal) ℓ) (c : Dev nD) (t : Fin cfg0.N)

/-! ## The graphs' arrays, read at a graph of the block -/

theorem at0 (g : Fin 16) (n k : Fin 32) : iblk m c 0 t (ix3 g n k) = V m c main_call0_v14 (ix3 (graphAt t g) n k) := by
  unfold graphAt; blk_ext [iblk, idxG t]
theorem at1 (g : Fin 16) (d : Fin 32) : iblk m c 1 t (ix4 g d 0 0) = V m c main_call0_v4 (ix4 (graphAt t g) d 0 0) := by
  unfold graphAt; blk_ext [iblk, idxG t]
theorem at2 (g : Fin 16) (s : Fin 32) : iblk m c 2 t (ix4 g 0 0 s) = V m c main_call0_v7 (ix4 (graphAt t g) 0 0 s) := by
  unfold graphAt; blk_ext [iblk, idxG t]
theorem at3 (g : Fin 16) (d : Fin 32) : iblk m c 3 t (ix4 g d 0 0) = V m c main_call0_v10 (ix4 (graphAt t g) d 0 0) := by
  unfold graphAt; blk_ext [iblk, idxG t]
theorem at4 (g : Fin 16) (s : Fin 32) : iblk m c 4 t (ix4 g 0 0 s) = V m c main_call0_v13 (ix4 (graphAt t g) 0 0 s) := by
  unfold graphAt; blk_ext [iblk, idxG t]
theorem at5 (g : Fin 16) (n : Fin 32) : iblk m c 5 t (ix3 g n 0) = V m c main_call0_v15 (ix3 (graphAt t g) n 0) := by
  unfold graphAt; blk_ext [iblk, idxG t]
theorem at6 (g : Fin 16) : iblk m c 6 t (ix2 g 0) = V m c main_call0_v19 (ix2 (graphAt t g) 0) := by
  unfold graphAt; blk_ext [iblk, idxG t]

/-! ## The weights: a block is its array -/

theorem at7 (x : Fin 32) (y : Fin 32) : iblk m c 7 t (ix2 x y) = V m c main_arg1 (ix2 x y) := by
  blk_ext [iblk, idxA t]
theorem at8 (x : Fin 1) (y : Fin 32) : iblk m c 8 t (ix2 x y) = V m c main_call0_v46 (ix2 x y) := by
  blk_ext [iblk, idxA t]
theorem at9 (x : Fin 32) (y : Fin 32) : iblk m c 9 t (ix2 x y) = V m c main_arg3 (ix2 x y) := by
  blk_ext [iblk, idxA t]
theorem at10 (x : Fin 1) (y : Fin 32) : iblk m c 10 t (ix2 x y) = V m c main_call0_v47 (ix2 x y) := by
  blk_ext [iblk, idxA t]
theorem at11 (x : Fin 32) (y : Fin 128) : iblk m c 11 t (ix2 x y) = V m c main_arg5 (ix2 x y) := by
  blk_ext [iblk, idxA t]
theorem at12 (x : Fin 1) (y : Fin 128) : iblk m c 12 t (ix2 x y) = V m c main_call0_v48 (ix2 x y) := by
  blk_ext [iblk, idxA t]
theorem at13 (x : Fin 32) (y : Fin 128) : iblk m c 13 t (ix2 x y) = V m c main_arg7 (ix2 x y) := by
  blk_ext [iblk, idxA t]
theorem at14 (x : Fin 1) (y : Fin 128) : iblk m c 14 t (ix2 x y) = V m c main_call0_v23 (ix2 x y) := by
  blk_ext [iblk, idxA t]
theorem at15 (x : Fin 128) (y : Fin 4) : iblk m c 15 t (ix2 x y) = V m c main_call0_v39 (ix2 x y) := by
  blk_ext [iblk, idxA t]
theorem at16 (x : Fin 1) (y : Fin 128) : iblk m c 16 t (ix2 x y) = V m c main_call0_v49 (ix2 x y) := by
  blk_ext [iblk, idxA t]
theorem at17 (x : Fin 128) (y : Fin 128) : iblk m c 17 t (ix2 x y) = V m c main_arg12 (ix2 x y) := by
  blk_ext [iblk, idxB t]
theorem at18 (x : Fin 1) (y : Fin 128) : iblk m c 18 t (ix2 x y) = V m c main_call0_v50 (ix2 x y) := by
  blk_ext [iblk, idxB t]
theorem at19 (x : Fin 128) (y : Fin 128) : iblk m c 19 t (ix2 x y) = V m c main_arg14 (ix2 x y) := by
  blk_ext [iblk, idxB t]
theorem at20 (x : Fin 1) (y : Fin 128) : iblk m c 20 t (ix2 x y) = V m c main_call0_v27 (ix2 x y) := by
  blk_ext [iblk, idxB t]
theorem at21 (x : Fin 128) (y : Fin 4) : iblk m c 21 t (ix2 x y) = V m c main_call0_v42 (ix2 x y) := by
  blk_ext [iblk, idxB t]
theorem at22 (x : Fin 1) (y : Fin 128) : iblk m c 22 t (ix2 x y) = V m c main_call0_v51 (ix2 x y) := by
  blk_ext [iblk, idxB t]
theorem at23 (x : Fin 32) (y : Fin 5) : iblk m c 23 t (ix2 x y) = V m c main_call0_v43 (ix2 x y) := by
  blk_ext [iblk, idxB t]
theorem at24 (x : Fin 128) (y : Fin 5) : iblk m c 24 t (ix2 x y) = V m c main_call0_v44 (ix2 x y) := by
  blk_ext [iblk, idxB t]
theorem at25 (x : Fin 128) (y : Fin 5) : iblk m c 25 t (ix2 x y) = V m c main_call0_v45 (ix2 x y) := by
  blk_ext [iblk, idxB t]
theorem at26 (x : Fin 1) (y : Fin 5) : iblk m c 26 t (ix2 x y) = V m c main_call0_v52 (ix2 x y) := by
  blk_ext [iblk, idxB t]

end Cert.KernelIdeal.Value

end
-- ==== Proof.Blocks.lean ====
/-
A block's operands are its graphs' part of the arguments.
-/
module

public import proofs.«01_k».proof.Proof.Reads

@[expose] public section

set_option maxRecDepth 16384

noncomputable section

namespace Cert.KernelIdeal.Value

open Idealize.ShloMosaic Idealize.ShloMosaic.TcCoe Idealize.SL.Sem Cert.KernelIdeal Cert.KernelIdeal.Gen Cert.Layer

/-! ## The prepared arrays at an index -/

/-- The biases as rows. -/
theorem row32_at (x : FVec Ideal S32 .f32) (k : Fin 32) : shapeCast S1x32 x shapeCasts_S32_S1x32 (ix2 0 k) = x (ix1 k) := by
  pointwise []
theorem row128_at (x : FVec Ideal S128 .f32) (k : Fin 128) : shapeCast S1x128 x shapeCasts_S128_S1x128 (ix2 0 k) = x (ix1 k) := by
  pointwise []
theorem row5_at (x : FVec Ideal S5 .f32) (k : Fin 5) : shapeCast S1x5 x shapeCasts_S5_S1x5 (ix2 0 k) = x (ix1 k) := by
  pointwise []

/-- The targets' bias holds the embedding of class zero. -/
theorem bias_at (b : FVec Ideal S128 .f32) (we : FVec Ideal S3x128 .f32) (k : Fin 128) :
    shapeCast S1x128 (addf b (shapeCast S128 (extractStridedSlice S1x128 ![0, 0] we slices_S3x128_S1x128_0_0) shapeCasts_S1x128_S128))
      shapeCasts_S128_S1x128 (ix2 0 k) = b (ix1 k) + we (ix2 0 k) := by
  pointwise []

variable (x : FVec Ideal S128x32x35 .f32) (g : Fin 128) (n : Fin 32)

/-- The first coordinates, by target. -/
theorem xd_at : shapeCast S128x32x1x1 (shapeCast S128x32 (extractStridedSlice S128x32x1 ![0, 0, 0] x slices_S128x32x35_S128x32x1_0_0_0)
    shapeCasts_S128x32x1_S128x32) shapeCasts_S128x32_S128x32x1x1 (ix4 g n 0 0) = x (ix3 g n 0) := by pointwise []
/-- The first coordinates, by source. -/
theorem xs_at : shapeCast S128x1x1x32 (shapeCast S128x32 (extractStridedSlice S128x32x1 ![0, 0, 0] x slices_S128x32x35_S128x32x1_0_0_0)
    shapeCasts_S128x32x1_S128x32) shapeCasts_S128x32_S128x1x1x32 (ix4 g 0 0 n) = x (ix3 g n 0) := by pointwise []
/-- The second coordinates, by target. -/
theorem yd_at : shapeCast S128x32x1x1 (shapeCast S128x32 (extractStridedSlice S128x32x1 ![0, 0, 1] x slices_S128x32x35_S128x32x1_0_0_1)
    shapeCasts_S128x32x1_S128x32) shapeCasts_S128x32_S128x32x1x1 (ix4 g n 0 0) = x (ix3 g n 1) := by pointwise []
/-- The second coordinates, by source. -/
theorem ys_at : shapeCast S128x1x1x32 (shapeCast S128x32 (extractStridedSlice S128x32x1 ![0, 0, 1] x slices_S128x32x35_S128x32x1_0_0_1)
    shapeCasts_S128x32x1_S128x32) shapeCasts_S128x32_S128x1x1x32 (ix4 g 0 0 n) = x (ix3 g n 1) := by pointwise []
/-- The nodes' own factors. -/
theorem dm_at : extractStridedSlice S128x32x1 ![0, 0, 34] x slices_S128x32x35_S128x32x1_0_0_34 (ix3 g n 0) = x (ix3 g n 34) := by
  pointwise []
/-- The controlled nodes. -/
theorem ctrl_at (k : IVec S128 32) : shapeCast S128x1 k shapeCasts_S128_S128x1 (ix2 g 0) = k (ix1 g) := by pointwise []

/-- The last layer's weights, in three parts. -/
theorem f1_at (w : FVec Ideal S288x5 .f32) (x : Fin 32) (k : Fin 5) :
    extractStridedSlice S32x5 ![0, 0] w slices_S288x5_S32x5_0_0 (ix2 x k) = w (ix2 ⟨x.val, by omega⟩ k) := by pointwise []
theorem f2_at (w : FVec Ideal S288x5 .f32) (x : Fin 128) (k : Fin 5) :
    extractStridedSlice S128x5 ![32, 0] w slices_S288x5_S128x5_32_0 (ix2 x k) = w (ix2 ⟨32 + x.val, by omega⟩ k) := by pointwise []
theorem f3_at (w : FVec Ideal S288x5 .f32) (x : Fin 128) (k : Fin 5) :
    extractStridedSlice S128x5 ![160, 0] w slices_S288x5_S128x5_160_0 (ix2 x k) = w (ix2 ⟨160 + x.val, by omega⟩ k) := by pointwise []

variable (m : (ℓ : Loc nD τ sig) → Buf (Elt Ideal) ℓ) (c : Dev nD) (t : Fin cfg0.N)

/-! ## The operands -/

theorem feats_eq (g : Fin 16) (n k : Fin 32) :
    (operands m c t).feats (ix3 g n k) = ReferenceIdeal.Stage.feats (args m c).obs (ix3 (graphAt t g) n k) := by
  refine (at0 m c t g n k).trans ?_
  rw [v14]

theorem pxd_eq (g : Fin 16) (d : Fin 32) :
    (operands m c t).pxd (ix4 g d 0 0) = ReferenceIdeal.Stage.nodes (args m c).obs (ix3 (graphAt t g) d 0) := by
  refine (at1 m c t g d).trans ?_
  rw [v4]
  exact xd_at _ _ d

theorem pxs_eq (g : Fin 16) (s : Fin 32) :
    (operands m c t).pxs (ix4 g 0 0 s) = ReferenceIdeal.Stage.nodes (args m c).obs (ix3 (graphAt t g) s 0) := by
  refine (at2 m c t g s).trans ?_
  rw [v7]
  exact xs_at _ _ s

theorem pyd_eq (g : Fin 16) (d : Fin 32) :
    (operands m c t).pyd (ix4 g d 0 0) = ReferenceIdeal.Stage.nodes (args m c).obs (ix3 (graphAt t g) d 1) := by
  refine (at3 m c t g d).trans ?_
  rw [v10]
  exact yd_at _ _ d

theorem pys_eq (g : Fin 16) (s : Fin 32) :
    (operands m c t).pys (ix4 g 0 0 s) = ReferenceIdeal.Stage.nodes (args m c).obs (ix3 (graphAt t g) s 1) := by
  refine (at4 m c t g s).trans ?_
  rw [v13]
  exact ys_at _ _ s

theorem dm_eq (g : Fin 16) (n : Fin 32) :
    (operands m c t).dm (ix3 g n 0) = ReferenceIdeal.Stage.nodes (args m c).obs (ix3 (graphAt t g) n 34) := by
  refine (at5 m c t g n).trans ?_
  rw [v15]
  exact dm_at _ _ n

theorem ctrl_eq (g : Fin 16) :
    (operands m c t).ctrl (ix2 g 0) = ReferenceIdeal.Stage.ctrl (args m c).obs (ix1 (graphAt t g)) := by
  refine (at6 m c t g).trans ?_
  rw [v19]
  exact ctrl_at _ _

theorem ew1_eq (x : Fin 32) (y : Fin 32) :
    (operands m c t).ew1 (ix2 x y) = (args m c).ew1 (ix2 x y) := by
  refine (at7 m c t x y).trans ?_
  rw [V_main_arg1]
  rfl

theorem eb1_eq (y : Fin 32) :
    (operands m c t).eb1 (ix2 0 y) = (args m c).eb1 (ix1 y) := by
  refine (at8 m c t 0 y).trans ?_
  rw [v46]
  exact row32_at _ y

theorem ew2_eq (x : Fin 32) (y : Fin 32) :
    (operands m c t).ew2 (ix2 x y) = (args m c).ew2 (ix2 x y) := by
  refine (at9 m c t x y).trans ?_
  rw [V_main_arg3]
  rfl

theorem eb2_eq (y : Fin 32) :
    (operands m c t).eb2 (ix2 0 y) = (args m c).eb2 (ix1 y) := by
  refine (at10 m c t 0 y).trans ?_
  rw [v47]
  exact row32_at _ y

theorem wl1_eq (x : Fin 32) (y : Fin 128) :
    (operands m c t).wl1 (ix2 x y) = (args m c).wl1 (ix2 x y) := by
  refine (at11 m c t x y).trans ?_
  rw [V_main_arg5]
  rfl

theorem bl1_eq (y : Fin 128) :
    (operands m c t).bl1 (ix2 0 y) = (args m c).bl1 (ix1 y) := by
  refine (at12 m c t 0 y).trans ?_
  rw [v48]
  exact row128_at _ y

theorem wr1_eq (x : Fin 32) (y : Fin 128) :
    (operands m c t).wr1 (ix2 x y) = (args m c).wr1 (ix2 x y) := by
  refine (at13 m c t x y).trans ?_
  rw [V_main_arg7]
  rfl

theorem br1_eq (y : Fin 128) :
    (operands m c t).br1 (ix2 0 y) = (args m c).br1 (ix1 y) + (args m c).we1 (ix2 0 y) := by
  refine (at14 m c t 0 y).trans ?_
  rw [v23]
  exact bias_at _ _ y

theorem att1_eq (x : Fin 128) (y : Fin 4) :
    (operands m c t).att1 (ix2 x y) = (args m c).att1 (ix2 (head x) (place x)) * (if head x = y then 1 else 0) := by
  refine (at15 m c t x y).trans ?_
  rw [v39]
  exact Stage.spread_eq _ x y

theorem bias1_eq (y : Fin 128) :
    (operands m c t).bias1 (ix2 0 y) = (args m c).bias1 (ix1 y) := by
  refine (at16 m c t 0 y).trans ?_
  rw [v49]
  exact row128_at _ y

theorem wl2_eq (x : Fin 128) (y : Fin 128) :
    (operands m c t).wl2 (ix2 x y) = (args m c).wl2 (ix2 x y) := by
  refine (at17 m c t x y).trans ?_
  rw [V_main_arg12]
  rfl

theorem bl2_eq (y : Fin 128) :
    (operands m c t).bl2 (ix2 0 y) = (args m c).bl2 (ix1 y) := by
  refine (at18 m c t 0 y).trans ?_
  rw [v50]
  exact row128_at _ y

theorem wr2_eq (x : Fin 128) (y : Fin 128) :
    (operands m c t).wr2 (ix2 x y) = (args m c).wr2 (ix2 x y) := by
  refine (at19 m c t x y).trans ?_
  rw [V_main_arg14]
  rfl

theorem br2_eq (y : Fin 128) :
    (operands m c t).br2 (ix2 0 y) = (args m c).br2 (ix1 y) + (args m c).we2 (ix2 0 y) := by
  refine (at20 m c t 0 y).trans ?_
  rw [v27]
  exact bias_at _ _ y

theorem att2_eq (x : Fin 128) (y : Fin 4) :
    (operands m c t).att2 (ix2 x y) = (args m c).att2 (ix2 (head x) (place x)) * (if head x = y then 1 else 0) := by
  refine (at21 m c t x y).trans ?_
  rw [v42]
  exact Stage.spread_eq _ x y

theorem bias2_eq (y : Fin 128) :
    (operands m c t).bias2 (ix2 0 y) = (args m c).bias2 (ix1 y) := by
  refine (at22 m c t 0 y).trans ?_
  rw [v51]
  exact row128_at _ y

theorem f1_eq (x : Fin 32) (y : Fin 5) :
    (operands m c t).f1 (ix2 x y) = (args m c).fw (ix2 ⟨x.val, by omega⟩ y) := by
  refine (at23 m c t x y).trans ?_
  rw [v43]
  exact f1_at _ x y

theorem f2_eq (x : Fin 128) (y : Fin 5) :
    (operands m c t).f2 (ix2 x y) = (args m c).fw (ix2 ⟨32 + x.val, by omega⟩ y) := by
  refine (at24 m c t x y).trans ?_
  rw [v44]
  exact f2_at _ x y

theorem f3_eq (x : Fin 128) (y : Fin 5) :
    (operands m c t).f3 (ix2 x y) = (args m c).fw (ix2 ⟨160 + x.val, by omega⟩ y) := by
  refine (at25 m c t x y).trans ?_
  rw [v45]
  exact f3_at _ x y

theorem fb_eq (y : Fin 5) :
    (operands m c t).fb (ix2 0 y) = (args m c).fb (ix1 y) := by
  refine (at26 m c t 0 y).trans ?_
  rw [v52]
  exact row5_at _ y

/-- The operands are the arguments' part. -/
theorem agrees : Agrees (args m c) (operands m c t) (graphAt t) where
  feats := feats_eq m c t
  pxd := pxd_eq m c t
  pxs := pxs_eq m c t
  pyd := pyd_eq m c t
  pys := pys_eq m c t
  dm := dm_eq m c t
  ctrl := ctrl_eq m c t
  ew1 := ew1_eq m c t
  eb1 := eb1_eq m c t
  ew2 := ew2_eq m c t
  eb2 := eb2_eq m c t
  wl1 := wl1_eq m c t
  bl1 := bl1_eq m c t
  wr1 := wr1_eq m c t
  br1 := br1_eq m c t
  att1 := att1_eq m c t
  bias1 := bias1_eq m c t
  wl2 := wl2_eq m c t
  bl2 := bl2_eq m c t
  wr2 := wr2_eq m c t
  br2 := br2_eq m c t
  att2 := att2_eq m c t
  bias2 := bias2_eq m c t
  f1 := f1_eq m c t
  f2 := f2_eq m c t
  f3 := f3_eq m c t
  fb := fb_eq m c t

end Cert.KernelIdeal.Value

end
-- ==== Proof.Array.lean ====
/-
What the kernel's result array holds after the run: at every graph the reference's result on the arguments.
-/
module

public import proofs.«01_k».proof.Proof.Blocks

@[expose] public section

set_option maxRecDepth 16384

noncomputable section

namespace Cert.KernelIdeal.Value

open Idealize.ShloMosaic Idealize.ShloMosaic.TcCoe Idealize.SL.Sem Cert.KernelIdeal Cert.KernelIdeal.Gen
open Idealize.ShloMosaic.Pipeline (Dat)

/-- A bias row laid out as itself, in the first layer. -/
theorem pay10_eq (b : S1x128.Idx → Elt Ideal .f32) : k0_pay10 (F := Ideal) b = b := shapeCast_self b _

/-- A bias row laid out as itself, in the second layer. -/
theorem pay20_eq (b : S1x128.Idx → Elt Ideal .f32) : k0_pay20 (F := Ideal) b = b := shapeCast_self b _

/-- The controlled node's row of the first layer. -/
theorem pay15_eq (hd : S4x128.Idx → Elt Ideal .f32) (oh : S16x32.Idx → Elt Ideal .f32) (b : S1x128.Idx → Elt Ideal .f32)
    (xl : S16x32x128.Idx → Elt Ideal .f32) (l : S16x32x4x32.Idx → Elt Ideal .f32) (m : S16x32x4.Idx → Elt Ideal .f32) :
    k0_pay15 (F := Ideal) hd oh b xl l m = Stage.chosen oh (k0_pay14 (F := Ideal) hd b xl l m) := rfl

/-- The first layer's result, scaled node by node. -/
theorem pay16_eq (hd : S4x128.Idx → Elt Ideal .f32) (b : S1x128.Idx → Elt Ideal .f32)
    (xl : S16x32x128.Idx → Elt Ideal .f32) (l : S16x32x4x32.Idx → Elt Ideal .f32) (m : S16x32x4.Idx → Elt Ideal .f32)
    (dm : S16x32x1.Idx → Elt Ideal .f32) :
    k0_pay16 (F := Ideal) hd b xl l m dm = Stage.scaled (k0_pay14 (F := Ideal) hd b xl l m) dm := rfl

/-- What the body leaves in the result's buffer is the composition of its steps. -/
theorem stored (o : Stage.Operands) :
    out0_27 (F := Ideal) o.feats o.pxd o.pxs o.pyd o.pys o.dm o.ctrl o.ew1 o.eb1 o.ew2 o.eb2 o.wl1 o.bl1 o.wr1 o.br1 o.att1 o.bias1
      o.wl2 o.bl2 o.wr2 o.br2 o.att2 o.bias2 o.f1 o.f2 o.f3 o.fb = o.out := by
  frame_out
  unfold k0_pay27 k0_pay30 k0_pay31 k0_pay32 k0_pay33 k0_pay26 k0_pay23 k0_pay22 k0_pay24 k0_pay25 k0_pay28 k0_pay29
  simp (disch := decide) only [View.ld_unit_lit']
  rw [pay15_eq, pay16_eq, Stage.pay21_eq, Stage.pay14_eq, pay10_eq, pay20_eq, Stage.pay11_eq, Stage.pay13_eq, Stage.pay12_eq]
  unfold Stage.Operands.out Stage.Operands.y1 Stage.Operands.xl2 Stage.Operands.xr2 Stage.Operands.mid
  unfold Stage.Operands.y1 Stage.Operands.xl1 Stage.Operands.xr1 Stage.Operands.near Stage.Operands.enc Stage.Operands.oh Stage.sums
  rfl

variable (m : (ℓ : Loc nD τ sig) → Buf (Elt Ideal) ℓ) (ρ : Dev nD → PrngReg)

/-- What a point's body leaves in the result's buffer: the block's result. -/
theorem left (c : Dev nD) (t : Fin cfg0.N) : (dats m 0 c).after 27 t = (operands m c t).out := by
  rw [after0_27, ← stored]
  dsimp only [operands]

/-- Where a cell of a point's block lies in the result's array. -/
theorem cell (t : Fin cfg0.N) (f : S128x5.Idx → Elt Ideal .f32) (g : Fin 16) (k : Fin 5) :
    f ((win0_27.blk t).view.emb (ix2 g k)) = f (ix2 (graphAt t g) k) := by
  unfold graphAt
  blk_ext [idxG t]

/-- The block's result is the reference's at the block's cells. -/
theorem block_eq (c : Dev nD) (ok : (args m c).Fits) (t : Fin cfg0.N) (z : S16x5.Idx) :
    (operands m c t).out z = (args m c).result ((win0_27.blk t).view.emb z) := by
  obtain ⟨g, k, rfl⟩ : ∃ (g : Fin 16) (k : Fin 5), z = ix2 g k := ⟨z 0, z 1, eq_ix2 z⟩
  exact ((agrees m c t).out_eq ok g k).trans (cell t (args m c).result g k).symm

/-- After the run the result's array holds the reference's result on the arguments. -/
theorem final (c : Dev nD) (ok : (args m c).Fits) : (dats m 0 c).arrAt 27 cfg0.N = (args m c).result := by
  refine (dats m 0 c).arrAt_eq_of_covers 27 _ (by decide +kernel) fun t _ y => ?_
  blk_simp
  rw [left]
  exact block_eq m c ok t y

/-- The kernel's run from arguments within the precondition: it leaves the reference's result and the arguments. -/
theorem run (ok : ∀ c, (args m c).Fits) :
    θ_run (defs (F := Ideal)) (onTc (τ := τ) (main (F := Ideal))) ⟨m, fun _ => 0, ρ⟩ (fun r =>
      Pipeline.FramePost cfgs (dats m) 0 (V m) r ∧ ∀ c : Dev nD, r.2.mem ((c.tc : Thread nD τ).loc main_v0) = (args m c).result) :=
  (θ_run defs _ _).mono (fun r h => ⟨h, fun c => ((h c).1 27).trans (final m c (ok c))⟩) (run_main m ρ)

end Cert.KernelIdeal.Value

end
-- ==== Proof.Algebraic.lean ====
/-
The claim about the values: from the same arguments, within the precondition, the kernel and the reference leave the same
result.
-/
module

public import proofs.«01_k».proof.Defs
public import proofs.«01_k».proof.Proof.Array

@[expose] public section

noncomputable section

namespace Cert.Claims

open Idealize.ShloMosaic Idealize.ShloMosaic.TcCoe Idealize.SL.Sem

/-- What the kernel's memory holds as its arguments. -/
abbrev given (m : (ℓ : Loc KernelIdeal.nD KernelIdeal.τ KernelIdeal.sig) → Buf (Elt Ideal) ℓ) (c : Dev KernelIdeal.nD) :
    ReferenceIdeal.Stage.Args := KernelIdeal.Value.args m c

/-- What the reference's memory holds as its arguments. -/
abbrev asked (m : (ℓ : Loc ReferenceIdeal.nD ReferenceIdeal.τ ReferenceIdeal.sig) → Buf (Elt Ideal) ℓ)
    (c : Dev ReferenceIdeal.nD) : ReferenceIdeal.Stage.Args where
  obs := m ((c : Thread ReferenceIdeal.nD ReferenceIdeal.τ).loc ReferenceIdeal.main_arg0)
  ew1 := m ((c : Thread ReferenceIdeal.nD ReferenceIdeal.τ).loc ReferenceIdeal.main_arg1)
  eb1 := m ((c : Thread ReferenceIdeal.nD ReferenceIdeal.τ).loc ReferenceIdeal.main_arg2)
  ew2 := m ((c : Thread ReferenceIdeal.nD ReferenceIdeal.τ).loc ReferenceIdeal.main_arg3)
  eb2 := m ((c : Thread ReferenceIdeal.nD ReferenceIdeal.τ).loc ReferenceIdeal.main_arg4)
  wl1 := m ((c : Thread ReferenceIdeal.nD ReferenceIdeal.τ).loc ReferenceIdeal.main_arg5)
  bl1 := m ((c : Thread ReferenceIdeal.nD ReferenceIdeal.τ).loc ReferenceIdeal.main_arg6)
  wr1 := m ((c : Thread ReferenceIdeal.nD ReferenceIdeal.τ).loc ReferenceIdeal.main_arg7)
  br1 := m ((c : Thread ReferenceIdeal.nD ReferenceIdeal.τ).loc ReferenceIdeal.main_arg8)
  we1 := m ((c : Thread ReferenceIdeal.nD ReferenceIdeal.τ).loc ReferenceIdeal.main_arg9)
  att1 := m ((c : Thread ReferenceIdeal.nD ReferenceIdeal.τ).loc ReferenceIdeal.main_arg10)
  bias1 := m ((c : Thread ReferenceIdeal.nD ReferenceIdeal.τ).loc ReferenceIdeal.main_arg11)
  wl2 := m ((c : Thread ReferenceIdeal.nD ReferenceIdeal.τ).loc ReferenceIdeal.main_arg12)
  bl2 := m ((c : Thread ReferenceIdeal.nD ReferenceIdeal.τ).loc ReferenceIdeal.main_arg13)
  wr2 := m ((c : Thread ReferenceIdeal.nD ReferenceIdeal.τ).loc ReferenceIdeal.main_arg14)
  br2 := m ((c : Thread ReferenceIdeal.nD ReferenceIdeal.τ).loc ReferenceIdeal.main_arg15)
  we2 := m ((c : Thread ReferenceIdeal.nD ReferenceIdeal.τ).loc ReferenceIdeal.main_arg16)
  att2 := m ((c : Thread ReferenceIdeal.nD ReferenceIdeal.τ).loc ReferenceIdeal.main_arg17)
  bias2 := m ((c : Thread ReferenceIdeal.nD ReferenceIdeal.τ).loc ReferenceIdeal.main_arg18)
  fw := m ((c : Thread ReferenceIdeal.nD ReferenceIdeal.τ).loc ReferenceIdeal.main_arg19)
  fb := m ((c : Thread ReferenceIdeal.nD ReferenceIdeal.τ).loc ReferenceIdeal.main_arg20)

/-- Arguments within the precondition fit what the equation asks. -/
theorem fits (m : (ℓ : Loc KernelIdeal.nD KernelIdeal.τ KernelIdeal.sig) → Buf (Elt Ideal) ℓ)
    (h : Pre_KernelIdeal_inputs_in_range m) (c : Dev KernelIdeal.nD) : (given m c).Fits :=
  (given m c).fits ((ReferenceIdeal.Stage.ok_eq (given m c)).symm.trans (h c))

/-- The reference's operations compute the result of the steps on its arguments. -/
theorem reference_value (m : (ℓ : Loc ReferenceIdeal.nD ReferenceIdeal.τ ReferenceIdeal.sig) → Buf (Elt Ideal) ℓ)
    (c : Dev ReferenceIdeal.nD) :
    ReferenceIdeal.Value.val4 (StableHlo.launchContents m c) (Proc.devRef .tc ReferenceIdeal.main_v192) = (asked m c).result :=
  ReferenceIdeal.Stage.v192_eq _

/-- The kernel and the reference leave the same result. -/
theorem algebraic : Cert.algebraic_KernelIdeal_ReferenceIdeal_pre_inputs_in_range := by
  intro m ρ m' ρ' within same
  refine ⟨fun c => (given m c).result,
    (θ_run _ _ _).mono (fun _ h c => ⟨h.1.2 c, h.2 c⟩)
      (θ_run_and (KernelIdeal.Value.run m ρ (fits m within)) (KernelIdeal.Gen.unchanged m ρ)),
    (θ_run _ _ _).mono (fun _ h c => ⟨(h c).1.trans ?_, (h c).2⟩) (ReferenceIdeal.Value.run (F := Ideal) m' ρ')⟩
  refine (ReferenceIdeal.Value.val4_main_v192 _).symm.trans ((reference_value m' c).trans ?_)
  have e : asked m' c = given m c := by
    obtain ⟨e0, e1, e2, e3, e4, e5, e6, e7, e8, e9, e10, e11, e12, e13, e14, e15, e16, e17, e18, e19, e20⟩ := same c
    unfold asked
    rw [e0, e1, e2, e3, e4, e5, e6, e7, e8, e9, e10, e11, e12, e13, e14, e15, e16, e17, e18, e19, e20]
    rfl
  rw [e]

end Cert.Claims

end
-- ==== Proof.lean ====
/-
Everything claimed of the kernel: the frames of the kernel, of the kernel over the extended reals and of the reference,
the two named constants, and that the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdealFrame
public import proofs.«01_k».proof.Proof.Gen.ReferenceIdeal
public import proofs.«01_k».proof.Proof.Gen.ReferenceIdeal.Run
public import proofs.«01_k».proof.Proof.Gen.Pre_inputs_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The whole claim. -/
theorem claim : Cert.Claim :=
  ⟨Cert.Kernel.Gen.facts, Cert.KernelIdeal.Gen.facts, Cert.ReferenceIdeal.Gen.facts, Cert.Pre_inputs_in_range.Gen.facts,
    Claims.frame_kernel, Claims.frame_ideal, Claims.frame_ideal_within, Claims.frame_reference, Claims.frame_reference_within,
    Claims.preserves, Claims.algebraic⟩

end Cert.Proof

end
